-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v10)) (v4 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x5120 : Shape := ⟨3, ![24, 1, 5120]⟩
abbrev S5120 : Shape := ⟨1, ![5120]⟩
abbrev S5120x7168 : Shape := ⟨2, ![5120, 7168]⟩
abbrev S7168 : Shape := ⟨1, ![7168]⟩
abbrev S24x1 : Shape := ⟨2, ![24, 1]⟩
abbrev S24x5120 : Shape := ⟨2, ![24, 5120]⟩
abbrev S1x5120 : Shape := ⟨2, ![1, 5120]⟩
abbrev S1x7168 : Shape := ⟨2, ![1, 7168]⟩
abbrev S24x7168 : Shape := ⟨2, ![24, 7168]⟩
abbrev S32x5120 : Shape := ⟨2, ![32, 5120]⟩
abbrev S4 : Shape := ⟨1, ![4]⟩
abbrev S9 : Shape := ⟨1, ![9]⟩
abbrev S1 : Shape := ⟨1, ![1]⟩
abbrev S_ : Shape := ⟨0, ![]⟩
abbrev S5120x1024 : Shape := ⟨2, ![5120, 1024]⟩
abbrev S5120x512 : Shape := ⟨2, ![5120, 512]⟩
abbrev S5120x256 : Shape := ⟨2, ![5120, 256]⟩
abbrev S24 : Shape := ⟨1, ![24]⟩
abbrev S1x256 : Shape := ⟨2, ![1, 256]⟩
abbrev S24x256 : Shape := ⟨2, ![24, 256]⟩
abbrev S8x5120 : Shape := ⟨2, ![8, 5120]⟩
abbrev S1x128 : Shape := ⟨2, ![1, 128]⟩
abbrev S24x128 : Shape := ⟨2, ![24, 128]⟩
abbrev S32x1024 : Shape := ⟨2, ![32, 1024]⟩
abbrev S24x1024 : Shape := ⟨2, ![24, 1024]⟩
abbrev S1x1024 : Shape := ⟨2, ![1, 1024]⟩
abbrev S32x512 : Shape := ⟨2, ![32, 512]⟩
abbrev S24x512 : Shape := ⟨2, ![24, 512]⟩
abbrev S1x512 : Shape := ⟨2, ![1, 512]⟩
abbrev S32x256 : Shape := ⟨2, ![32, 256]⟩
abbrev S24x1x40x128 : Shape := ⟨4, ![24, 1, 40, 128]⟩
abbrev S24x1x8x128 : Shape := ⟨4, ![24, 1, 8, 128]⟩
abbrev S24x1x1 : Shape := ⟨3, ![24, 1, 1]⟩

abbrev nBuf : Space → Nat
  | .hbm => 19
  | .vmem => 9
  | .smem => 0
  | _ => 0

abbrev bufTy : (tb : Table) → Fin (tcTables nBuf tb) → BufTy
  | .hbm, ⟨0, _⟩ => ⟨S24x1x5120, .bf16⟩
  | .hbm, ⟨1, _⟩ => ⟨S5120, .f32⟩
  | .hbm, ⟨2, _⟩ => ⟨S5120x7168, .fp8e4m3⟩
  | .hbm, ⟨3, _⟩ => ⟨S7168, .f32⟩
  | .hbm, ⟨4, _⟩ => ⟨S24x1, .i32⟩
  | .hbm, ⟨5, _⟩ => ⟨S24x5120, .bf16⟩
  | .hbm, ⟨6, _⟩ => ⟨S1x5120, .f32⟩
  | .hbm, ⟨7, _⟩ => ⟨S1x7168, .f32⟩
  | .hbm, ⟨8, _⟩ => ⟨S24x7168, .bf16⟩
  | .hbm, ⟨9, _⟩ => ⟨S24x5120, .fp8e4m3⟩
  | .hbm, ⟨10, _⟩ => ⟨S24x1, .f32⟩
  | .hbm, ⟨11, _⟩ => ⟨S24x5120, .bf16⟩
  | .hbm, ⟨12, _⟩ => ⟨S24x1x40x128, .bf16⟩
  | .hbm, ⟨13, _⟩ => ⟨S24x1024, .bf16⟩
  | .hbm, ⟨14, _⟩ => ⟨S24x1x8x128, .bf16⟩
  | .hbm, ⟨15, _⟩ => ⟨S24x1024, .bf16⟩
  | .hbm, ⟨16, _⟩ => ⟨S24x1x8x128, .bf16⟩
  | .hbm, ⟨17, _⟩ => ⟨S24x1x5120, .fp8e4m3⟩
  | .hbm, ⟨18, _⟩ => ⟨S24x1x1, .f32⟩
  | .local _ .vmem, ⟨0, _⟩ => ⟨S24x7168, .bf16⟩
  | .local _ .vmem, ⟨1, _⟩ => ⟨S24x5120, .fp8e4m3⟩
  | .local _ .vmem, ⟨2, _⟩ => ⟨S24x1, .f32⟩
  | .local _ .vmem, ⟨3, _⟩ => ⟨S24x5120, .bf16⟩
  | .local _ .vmem, ⟨4, _⟩ => ⟨S1x5120, .f32⟩
  | .local _ .vmem, ⟨5, _⟩ => ⟨S1x7168, .f32⟩
  | .local _ .vmem, ⟨6, _⟩ => ⟨S24x1, .i32⟩
  | .local _ .vmem, ⟨7, _⟩ => ⟨S5120x7168, .fp8e4m3⟩
  | .local _ .vmem, ⟨8, _⟩ => ⟨S32x5120, .fp8e4m3⟩
  | _, _ => ⟨S24x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S24x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S24x1x5120 : Shape := ⟨3, ![24, 1, 5120]⟩
abbrev S5120 : Shape := ⟨1, ![5120]⟩
abbrev S5120x7168 : Shape := ⟨2, ![5120, 7168]⟩
abbrev S7168 : Shape := ⟨1, ![7168]⟩
abbrev S24x1 : Shape := ⟨2, ![24, 1]⟩
abbrev S24x1x40x128 : Shape := ⟨4, ![24, 1, 40, 128]⟩
abbrev S24x1x8x128 : Shape := ⟨4, ![24, 1, 8, 128]⟩
abbrev S24x1x1 : Shape := ⟨3, ![24, 1, 1]⟩
abbrev S1x1x5120 : Shape := ⟨3, ![1, 1, 5120]⟩
abbrev S24x5120 : Shape := ⟨2, ![24, 5120]⟩
abbrev S24 : Shape := ⟨1, ![24]⟩
abbrev S24x7168 : Shape := ⟨2, ![24, 7168]⟩
abbrev S1x7168 : Shape := ⟨2, ![1, 7168]⟩
abbrev S24x1x7168 : Shape := ⟨3, ![24, 1, 7168]⟩
abbrev S24x1x1024 : Shape := ⟨3, ![24, 1, 1024]⟩
abbrev S1x64 : Shape := ⟨2, ![1, 64]⟩
abbrev S64 : Shape := ⟨1, ![64]⟩
abbrev S1x1x64 : Shape := ⟨3, ![1, 1, 64]⟩
abbrev S24x1x64 : Shape := ⟨3, ![24, 1, 64]⟩
abbrev S24x1x128 : Shape := ⟨3, ![24, 1, 128]⟩
abbrev S24x1x1x128 : Shape := ⟨4, ![24, 1, 1, 128]⟩
abbrev S24x1x40x64 : Shape := ⟨4, ![24, 1, 40, 64]⟩
abbrev S24x1x8x64 : Shape := ⟨4, ![24, 1, 8, 64]⟩

abbrev nBuf : Space → Nat
  | .hbm => 10
  | .vmem => 10
  | .smem => 0
  | _ => 0

abbrev bufTy : (tb : Table) → Fin (tcTables nBuf tb) → BufTy
  | .hbm, ⟨0, _⟩ => ⟨S24x1x5120, .bf16⟩
  | .hbm, ⟨1, _⟩ => ⟨S5120, .f32⟩
  | .hbm, ⟨2, _⟩ => ⟨S5120x7168, .fp8e4m3⟩
  | .hbm, ⟨3, _⟩ => ⟨S7168, .f32⟩
  | .hbm, ⟨4, _⟩ => ⟨S24x1, .i32⟩
  | .hbm, ⟨5, _⟩ => ⟨S24x1x40x128, .bf16⟩
  | .hbm, ⟨6, _⟩ => ⟨S24x1x8x128, .bf16⟩
  | .hbm, ⟨7, _⟩ => ⟨S24x1x8x128, .bf16⟩
  | .hbm, ⟨8, _⟩ => ⟨S24x1x5120, .fp8e4m3⟩
  | .hbm, ⟨9, _⟩ => ⟨S24x1x1, .f32⟩
  | .local _ .vmem, ⟨0, _⟩ => ⟨S24x1x5120, .bf16⟩
  | .local _ .vmem, ⟨1, _⟩ => ⟨S5120, .f32⟩
  | .local _ .vmem, ⟨2, _⟩ => ⟨S5120x7168, .fp8e4m3⟩
  | .local _ .vmem, ⟨3, _⟩ => ⟨S7168, .f32⟩
  | .local _ .vmem, ⟨4, _⟩ => ⟨S24x1, .i32⟩
  | .local _ .vmem, ⟨5, _⟩ => ⟨S24x1x40x128, .bf16⟩
  | .local _ .vmem, ⟨6, _⟩ => ⟨S24x1x8x128, .bf16⟩
  | .local _ .vmem, ⟨7, _⟩ => ⟨S24x1x8x128, .bf16⟩
  | .local _ .vmem, ⟨8, _⟩ => ⟨S24x1x5120, .fp8e4m3⟩
  | .local _ .vmem, ⟨9, _⟩ => ⟨S24x1x1, .f32⟩
  | _, _ => ⟨S24x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S24x1x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1x40x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1x8x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x1x8x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x1x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.ReferenceRun.lean ====
/- What the reference's run leaves in its five result arrays.

The reference is one call without a grid, so every operand's block is the whole operand and every result's block the whole
result: `run` says that result `n` holds `Gn` of the five arguments, `Gn` being the values that the body stores. -/
module

public import proofs.«01_k».proof.Proof.Gen.ReferenceIdeal.Frame
public import Idealize.ShloMosaic.Lib.Pipeline.Value

@[expose] public section

noncomputable section

namespace Cert.ReferenceRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_2) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_3) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_4) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S24x1x5120.Idx) : ((cfg0.win 0).blk t).view.emb j = j := by
  obtain ⟨e0, e1, e2⟩ := idx_zero0 t
  funext a; apply Fin.ext
  match a with
  | ⟨0, _⟩ => show win0_0.index t (0 : Fin 3) * 24 + 1 * (j 0).val = (j 0).val; omega
  | ⟨1, _⟩ => show win0_0.index t (1 : Fin 3) * 1 + 1 * (j 1).val = (j 1).val; omega
  | ⟨2, _⟩ => show win0_0.index t (2 : Fin 3) * 5120 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0] : Fin 1 → Nat) = fun _ => 0 := funext fun a => by fin_cases a <;> rfl

/-- Window 1's block index at the one point is zero on every axis. -/
theorem idx_zero1 : ∀ t : Fin cfg0.N, win0_1.index t (0 : Fin 1) = 0 :=
  (by decide +kernel : ∀ t : Fin grid0.N, _)

/-- An index of window 1's block is the same index of its array. -/
theorem emb1 (t : Fin cfg0.N) (j : S5120.Idx) : ((cfg0.win 1).blk t).view.emb j = j := by
  have e0 := idx_zero1 t
  funext a; apply Fin.ext
  match a with
  | ⟨0, _⟩ => show win0_1.index t (0 : Fin 1) * 5120 + 1 * (j 0).val = (j 0).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S5120x7168.Idx) : ((cfg0.win 2).blk t).view.emb j = j := by
  obtain ⟨e0, e1⟩ := idx_zero2 t
  funext a; apply Fin.ext
  match a with
  | ⟨0, _⟩ => show win0_2.index t (0 : Fin 2) * 5120 + 1 * (j 0).val = (j 0).val; omega
  | ⟨1, _⟩ => show win0_2.index t (1 : Fin 2) * 7168 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S7168.Idx) : ((cfg0.win 3).blk t).view.emb j = j := by
  have e0 := idx_zero3 t
  funext a; apply Fin.ext
  match a with
  | ⟨0, _⟩ => show win0_3.index t (0 : Fin 1) * 7168 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S24x1.Idx) : ((cfg0.win 4).blk t).view.emb j = j := by
  obtain ⟨e0, e1⟩ := idx_zero4 t
  funext a; apply Fin.ext
  match a with
  | ⟨0, _⟩ => show win0_4.index t (0 : Fin 2) * 24 + 1 * (j 0).val = (j 0).val; omega
  | ⟨1, _⟩ => show win0_4.index t (1 : Fin 2) * 1 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0, 0] : Fin 4 → Nat) = fun _ => 0 := funext fun a => by fin_cases a <;> rfl

/-- Window 5's block index at the one point is zero on every axis. -/
theorem idx_zero5 : ∀ t : Fin cfg0.N, win0_5.index t (0 : Fin 4) = 0 ∧ win0_5.index t (1 : Fin 4) = 0 ∧ win0_5.index t (2 : Fin 4) = 0 ∧ win0_5.index t (3 : Fin 4) = 0 :=
  (by decide +kernel : ∀ t : Fin grid0.N, _)

/-- An index of window 5's block is the same index of its array. -/
theorem emb5 (t : Fin cfg0.N) (j : S24x1x40x128.Idx) : ((cfg0.win 5).blk t).view.emb j = j := by
  obtain ⟨e0, e1, e2, e3⟩ := idx_zero5 t
  funext a; apply Fin.ext
  match a with
  | ⟨0, _⟩ => show win0_5.index t (0 : Fin 4) * 24 + 1 * (j 0).val = (j 0).val; omega
  | ⟨1, _⟩ => show win0_5.index t (1 : Fin 4) * 1 + 1 * (j 1).val = (j 1).val; omega
  | ⟨2, _⟩ => show win0_5.index t (2 : Fin 4) * 40 + 1 * (j 2).val = (j 2).val; omega
  | ⟨3, _⟩ => show win0_5.index t (3 : Fin 4) * 128 + 1 * (j 3).val = (j 3).val; omega

theorem hz6 : (![0, 0, 0, 0] : Fin 4 → Nat) = fun _ => 0 := funext fun a => by fin_cases a <;> rfl

/-- Window 6's block index at the one point is zero on every axis. -/
theorem idx_zero6 : ∀ t : Fin cfg0.N, win0_6.index t (0 : Fin 4) = 0 ∧ win0_6.index t (1 : Fin 4) = 0 ∧ win0_6.index t (2 : Fin 4) = 0 ∧ win0_6.index t (3 : Fin 4) = 0 :=
  (by decide +kernel : ∀ t : Fin grid0.N, _)

/-- An index of window 6's block is the same index of its array. -/
theorem emb6 (t : Fin cfg0.N) (j : S24x1x8x128.Idx) : ((cfg0.win 6).blk t).view.emb j = j := by
  obtain ⟨e0, e1, e2, e3⟩ := idx_zero6 t
  funext a; apply Fin.ext
  match a with
  | ⟨0, _⟩ => show win0_6.index t (0 : Fin 4) * 24 + 1 * (j 0).val = (j 0).val; omega
  | ⟨1, _⟩ => show win0_6.index t (1 : Fin 4) * 1 + 1 * (j 1).val = (j 1).val; omega
  | ⟨2, _⟩ => show win0_6.index t (2 : Fin 4) * 8 + 1 * (j 2).val = (j 2).val; omega
  | ⟨3, _⟩ => show win0_6.index t (3 : Fin 4) * 128 + 1 * (j 3).val = (j 3).val; omega

theorem hz7 : (![0, 0, 0, 0] : Fin 4 → Nat) = fun _ => 0 := funext fun a => by fin_cases a <;> rfl

/-- Window 7's block index at the one point is zero on every axis. -/
theorem idx_zero7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, _)

/-- An index of window 7's block is the same index of its array. -/
theorem emb7 (t : Fin cfg0.N) (j : S24x1x8x128.Idx) : ((cfg0.win 7).blk t).view.emb j = j := by
  obtain ⟨e0, e1, e2, e3⟩ := idx_zero7 t
  funext a; apply Fin.ext
  match a with
  | ⟨0, _⟩ => show win0_7.index t (0 : Fin 4) * 24 + 1 * (j 0).val = (j 0).val; omega
  | ⟨1, _⟩ => show win0_7.index t (1 : Fin 4) * 1 + 1 * (j 1).val = (j 1).val; omega
  | ⟨2, _⟩ => show win0_7.index t (2 : Fin 4) * 8 + 1 * (j 2).val = (j 2).val; omega
  | ⟨3, _⟩ => show win0_7.index t (3 : Fin 4) * 128 + 1 * (j 3).val = (j 3).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S24x1x5120.Idx) : ((cfg0.win 8).blk t).view.emb j = j := by
  obtain ⟨e0, e1, e2⟩ := idx_zero8 t
  funext a; apply Fin.ext
  match a with
  | ⟨0, _⟩ => show win0_8.index t (0 : Fin 3) * 24 + 1 * (j 0).val = (j 0).val; omega
  | ⟨1, _⟩ => show win0_8.index t (1 : Fin 3) * 1 + 1 * (j 1).val = (j 1).val; omega
  | ⟨2, _⟩ => show win0_8.index t (2 : Fin 3) * 5120 + 1 * (j 2).val = (j 2).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S24x1x1.Idx) : ((cfg0.win 9).blk t).view.emb j = j := by
  obtain ⟨e0, e1, e2⟩ := idx_zero9 t
  funext a; apply Fin.ext
  match a with
  | ⟨0, _⟩ => show win0_9.index t (0 : Fin 3) * 24 + 1 * (j 0).val = (j 0).val; omega
  | ⟨1, _⟩ => show win0_9.index t (1 : Fin 3) * 1 + 1 * (j 1).val = (j 1).val; omega
  | ⟨2, _⟩ => show win0_9.index t (2 : Fin 3) * 1 + 1 * (j 2).val = (j 2).val; omega

/-! ### Output window 5: the array after the run -/

/-- What the window's array ends holding: `out0_5` applied to the argument arrays in place of the input blocks (a value that the
    frame states apart, `kK_payN a…`, keeps its loads inside its own definition). -/
abbrev G5 (a0 : Vec F S24x1x5120 .bf16) (a1 : Vec F S5120 .f32) (a2 : Vec F S5120x7168 .fp8e4m3) (a3 : Vec F S7168 .f32) (a4 : Vec F S24x1 .i32) : Vec F S24x1x40x128 .bf16 :=
  k0_pay20 a4 (k0_pay14 a2 a3 (k0_pay22 a0 a1 a2 a3 a4) (k0_pay23 a0 a1 a2 a3 a4) (k0_pay24 a0 a1 a2 a3 a4) (k0_pay25 a0 a1 a2 a3 a4) (k0_pay26 a0 a1 a2 a3 a4)) (k0_pay27 a0 a1 a2 a3 a4)

/-- A load of the whole of a block reads the block, and the one store through the whole rectangle leaves its payload. -/
theorem out5_eq (a0 : Vec F S24x1x5120 .bf16) (a1 : Vec F S5120 .f32) (a2 : Vec F S5120x7168 .fp8e4m3) (a3 : Vec F S7168 .f32) (a4 : Vec F S24x1 .i32) : out0_5 (F := F) a0 a1 a2 a3 a4 = G5 a0 a1 a2 a3 a4 := by
  unfold out0_5
  rw [View.canon_unit_zero hz5, View.ld_unit_zero (S := S24x1) hz4 _ a4, View.ld_unit_zero (S := S5120x7168) hz2 _ a2, View.ld_unit_zero (S := S7168) hz3 _ a3]

/-- Cutting the point's block out of `X` and reading `X` through the block's view give the same. -/
theorem cut5_eq (t : Fin cfg0.N) (X : Vec F S24x1x40x128 .bf16) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3) (V m c main_arg4)) := by
  show (cfg0.win 5).cut (grid0.coords t) ((dats m 0 c).after 5 t) = _
  rw [after0_5, out5_eq, iblk0_eq, iblk1_eq, iblk2_eq, iblk3_eq, iblk4_eq]
  exact cut5_eq t _

/-- Every index of the array is in the point's block. -/
theorem covered5 (i : S24x1x40x128.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 5 (G5 (V m c main_arg0) (V m c main_arg1) (V m c main_arg2) (V m c main_arg3) (V m c main_arg4)) (fun t _ => flushed5_eq m c t) covered5).trans (by rw [V_main_arg0, V_main_arg1, V_main_arg2, V_main_arg3, V_main_arg4])

/-! ### Output window 6: the array after the run -/

/-- What the window's array ends holding: `out0_6` applied to the argument arrays in place of the input blocks (a value that the
    frame states apart, `kK_payN a…`, keeps its loads inside its own definition). -/
abbrev G6 (a0 : Vec F S24x1x5120 .bf16) (a1 : Vec F S5120 .f32) (a2 : Vec F S5120x7168 .fp8e4m3) (a3 : Vec F S7168 .f32) (a4 : Vec F S24x1 .i32) : Vec F S24x1x8x128 .bf16 :=
  k0_pay21 a4 (k0_pay15 a2 a3 (k0_pay22 a0 a1 a2 a3 a4) (k0_pay23 a0 a1 a2 a3 a4) (k0_pay24 a0 a1 a2 a3 a4) (k0_pay25 a0 a1 a2 a3 a4) (k0_pay26 a0 a1 a2 a3 a4)) (k0_pay27 a0 a1 a2 a3 a4)

/-- A load of the whole of a block reads the block, and the one store through the whole rectangle leaves its payload. -/
theorem out6_eq (a0 : Vec F S24x1x5120 .bf16) (a1 : Vec F S5120 .f32) (a2 : Vec F S5120x7168 .fp8e4m3) (a3 : Vec F S7168 .f32) (a4 : Vec F S24x1 .i32) : out0_6 (F := F) a0 a1 a2 a3 a4 = G6 a0 a1 a2 a3 a4 := by
  unfold out0_6
  rw [View.canon_unit_zero hz6, View.ld_unit_zero (S := S24x1) hz4 _ a4, View.ld_unit_zero (S := S5120x7168) hz2 _ a2, View.ld_unit_zero (S := S7168) hz3 _ a3]

/-- Cutting the point's block out of `X` and reading `X` through the block's view give the same. -/
theorem cut6_eq (t : Fin cfg0.N) (X : Vec F S24x1x8x128 .bf16) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4)) := by
  show (cfg0.win 6).cut (grid0.coords t) ((dats m 0 c).after 6 t) = _
  rw [after0_6, out6_eq, iblk0_eq, iblk1_eq, iblk2_eq, iblk3_eq, iblk4_eq]
  exact cut6_eq t _

/-- Every index of the array is in the point's block. -/
theorem covered6 (i : S24x1x8x128.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 6 (G6 (V m c main_arg0) (V m c main_arg1) (V m c main_arg2) (V m c main_arg3) (V m c main_arg4)) (fun t _ => flushed6_eq m c t) covered6).trans (by rw [V_main_arg0, V_main_arg1, V_main_arg2, V_main_arg3, V_main_arg4])

/-! ### Output window 7: the array after the run -/

/-- What the window's array ends holding: `out0_7` applied to the argument arrays in place of the input blocks (a value that the
    frame states apart, `kK_payN a…`, keeps its loads inside its own definition). -/
abbrev G7 (a0 : Vec F S24x1x5120 .bf16) (a1 : Vec F S5120 .f32) (a2 : Vec F S5120x7168 .fp8e4m3) (a3 : Vec F S7168 .f32) (a4 : Vec F S24x1 .i32) : Vec F S24x1x8x128 .bf16 :=
  k0_pay1 (k0_pay16 a2 a3 (k0_pay22 a0 a1 a2 a3 a4) (k0_pay23 a0 a1 a2 a3 a4) (k0_pay24 a0 a1 a2 a3 a4) (k0_pay25 a0 a1 a2 a3 a4) (k0_pay26 a0 a1 a2 a3 a4))

/-- A load of the whole of a block reads the block, and the one store through the whole rectangle leaves its payload. -/
theorem out7_eq (a0 : Vec F S24x1x5120 .bf16) (a1 : Vec F S5120 .f32) (a2 : Vec F S5120x7168 .fp8e4m3) (a3 : Vec F S7168 .f32) (a4 : Vec F S24x1 .i32) : out0_7 (F := F) a0 a1 a2 a3 a4 = G7 a0 a1 a2 a3 a4 := by
  unfold out0_7
  rw [View.canon_unit_zero hz7, View.ld_unit_zero (S := S5120x7168) hz2 _ a2, View.ld_unit_zero (S := S7168) hz3 _ a3]

/-- Cutting the point's block out of `X` and reading `X` through the block's view give the same. -/
theorem cut7_eq (t : Fin cfg0.N) (X : Vec F S24x1x8x128 .bf16) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4)) := by
  show (cfg0.win 7).cut (grid0.coords t) ((dats m 0 c).after 7 t) = _
  rw [after0_7, out7_eq, iblk0_eq, iblk1_eq, iblk2_eq, iblk3_eq, iblk4_eq]
  exact cut7_eq t _

/-- Every index of the array is in the point's block. -/
theorem covered7 (i : S24x1x8x128.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 7 (G7 (V m c main_arg0) (V m c main_arg1) (V m c main_arg2) (V m c main_arg3) (V m c main_arg4)) (fun t _ => flushed7_eq m c t) covered7).trans (by rw [V_main_arg0, V_main_arg1, V_main_arg2, V_main_arg3, V_main_arg4])

/-! ### Output window 8: the array after the run -/

/-- What the window's array ends holding: `out0_8` applied to the argument arrays in place of the input blocks (a value that the
    frame states apart, `kK_payN a…`, keeps its loads inside its own definition). -/
abbrev G8 (a0 : Vec F S24x1x5120 .bf16) (a1 : Vec F S5120 .f32) (a2 : Vec F S5120x7168 .fp8e4m3) (a3 : Vec F S7168 .f32) (a4 : Vec F S24x1 .i32) : Vec F S24x1x5120 .fp8e4m3 :=
  k0_pay2 (k0_pay12 (k0_pay22 a0 a1 a2 a3 a4) (k0_pay23 a0 a1 a2 a3 a4) (k0_pay24 a0 a1 a2 a3 a4) (k0_pay25 a0 a1 a2 a3 a4) (k0_pay26 a0 a1 a2 a3 a4))

/-- The one store through the whole rectangle leaves its payload. -/
theorem out8_eq (a0 : Vec F S24x1x5120 .bf16) (a1 : Vec F S5120 .f32) (a2 : Vec F S5120x7168 .fp8e4m3) (a3 : Vec F S7168 .f32) (a4 : Vec F S24x1 .i32) : out0_8 (F := F) a0 a1 a2 a3 a4 = G8 a0 a1 a2 a3 a4 := by
  unfold out0_8
  rw [View.canon_unit_zero hz8]

/-- Cutting the point's block out of `X` and reading `X` through the block's view give the same. -/
theorem cut8_eq (t : Fin cfg0.N) (X : Vec F S24x1x5120 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4)) := by
  show (cfg0.win 8).cut (grid0.coords t) ((dats m 0 c).after 8 t) = _
  rw [after0_8, out8_eq, iblk0_eq, iblk1_eq, iblk2_eq, iblk3_eq, iblk4_eq]
  exact cut8_eq t _

/-- Every index of the array is in the point's block. -/
theorem covered8 (i : S24x1x5120.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 8 (G8 (V m c main_arg0) (V m c main_arg1) (V m c main_arg2) (V m c main_arg3) (V m c main_arg4)) (fun t _ => flushed8_eq m c t) covered8).trans (by rw [V_main_arg0, V_main_arg1, V_main_arg2, V_main_arg3, V_main_arg4])

/-! ### Output window 9: the array after the run -/

/-- What the window's array ends holding: `out0_9` applied to the argument arrays in place of the input blocks (a value that the
    frame states apart, `kK_payN a…`, keeps its loads inside its own definition). -/
abbrev G9 (a0 : Vec F S24x1x5120 .bf16) (a1 : Vec F S5120 .f32) (a2 : Vec F S5120x7168 .fp8e4m3) (a3 : Vec F S7168 .f32) (a4 : Vec F S24x1 .i32) : Vec F S24x1x1 .f32 :=
  k0_pay3 (k0_pay11 (k0_pay23 a0 a1 a2 a3 a4) (k0_pay24 a0 a1 a2 a3 a4) (k0_pay25 a0 a1 a2 a3 a4) (k0_pay26 a0 a1 a2 a3 a4))

/-- The one store through the whole rectangle leaves its payload. -/
theorem out9_eq (a0 : Vec F S24x1x5120 .bf16) (a1 : Vec F S5120 .f32) (a2 : Vec F S5120x7168 .fp8e4m3) (a3 : Vec F S7168 .f32) (a4 : Vec F S24x1 .i32) : out0_9 (F := F) a0 a1 a2 a3 a4 = G9 a0 a1 a2 a3 a4 := by
  unfold out0_9
  rw [View.canon_unit_zero hz9]

/-- Cutting the point's block out of `X` and reading `X` through the block's view give the same. -/
theorem cut9_eq (t : Fin cfg0.N) (X : Vec F S24x1x1 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4)) := by
  show (cfg0.win 9).cut (grid0.coords t) ((dats m 0 c).after 9 t) = _
  rw [after0_9, out9_eq, iblk0_eq, iblk1_eq, iblk2_eq, iblk3_eq, iblk4_eq]
  exact cut9_eq t _

/-- Every index of the array is in the point's block. -/
theorem covered9 (i : S24x1x1.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) :=
  ((dats m 0 c).arrAt_eq_of_cover 9 (G9 (V m c main_arg0) (V m c main_arg1) (V m c main_arg2) (V m c main_arg3) (V m c main_arg4)) (fun t _ => flushed9_eq m c t) covered9).trans (by rw [V_main_arg0, V_main_arg1, V_main_arg2, V_main_arg3, V_main_arg4])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G5 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = G6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = G7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_3) = G8 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_4) = G9 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      (post8 m r h c).trans (final8 m c),
      (post9 m r h c).trans (final9 m c),
      kept_main_arg0 m r h c,
      kept_main_arg1 m r h c,
      kept_main_arg2 m r h c,
      kept_main_arg3 m r h c,
      kept_main_arg4 m r h c⟩)
    (run_main m ρ)

end Cert.ReferenceRun

end
-- ==== Proof.KernelRun.lean ====
/- What the kernel's run leaves in its five results: the arrays that the call writes, cut and reshaped by the host lines
after it. -/
module

public import proofs.«01_k».proof.Proof.Gen.KernelIdeal.Frame
public import Idealize.ShloMosaic.Lib.Pipeline.Value
public import Idealize.ShloMosaic.Lib.Claim

@[expose] public section

set_option maxRecDepth 16384

noncomputable section

namespace Cert.KernelRun

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The one grid point. -/
abbrev t0 : Fin cfg0.N := ⟨0, by decide⟩

theorem eq_t0 (t : Fin cfg0.N) : t = t0 := Fin.ext (by have h : cfg0.N = 1 := by decide
                                                       have := t.isLt; show t.val = 0; omega)

/-- Each result's block index at the one point is zero on every axis. -/
theorem idx_zero0 : ∀ t : Fin cfg0.N, win0_0.index t (0 : Fin 2) = 0 ∧ win0_0.index t (1 : Fin 2) = 0 :=
  (by decide +kernel : ∀ t : Fin grid0.N, _)
theorem idx_zero1 : ∀ t : Fin cfg0.N, win0_1.index t (0 : Fin 2) = 0 ∧ win0_1.index t (1 : Fin 2) = 0 :=
  (by decide +kernel : ∀ t : Fin grid0.N, _)
theorem idx_zero2 : ∀ t : Fin cfg0.N, win0_2.index t (0 : Fin 2) = 0 ∧ win0_2.index t (1 : Fin 2) = 0 :=
  (by decide +kernel : ∀ t : Fin grid0.N, _)

/-- An index of a result's block is the same index of its array. -/
theorem emb0 (t : Fin cfg0.N) (j : S24x7168.Idx) : ((cfg0.win 0).blk t).view.emb j = j := by
  obtain ⟨e0, e1⟩ := idx_zero0 t
  funext a; apply Fin.ext
  match a with
  | ⟨0, _⟩ => show win0_0.index t (0 : Fin 2) * 24 + 1 * (j 0).val = (j 0).val; omega
  | ⟨1, _⟩ => show win0_0.index t (1 : Fin 2) * 7168 + 1 * (j 1).val = (j 1).val; omega
theorem emb1 (t : Fin cfg0.N) (j : S24x5120.Idx) : ((cfg0.win 1).blk t).view.emb j = j := by
  obtain ⟨e0, e1⟩ := idx_zero1 t
  funext a; apply Fin.ext
  match a with
  | ⟨0, _⟩ => show win0_1.index t (0 : Fin 2) * 24 + 1 * (j 0).val = (j 0).val; omega
  | ⟨1, _⟩ => show win0_1.index t (1 : Fin 2) * 5120 + 1 * (j 1).val = (j 1).val; omega
theorem emb2 (t : Fin cfg0.N) (j : S24x1.Idx) : ((cfg0.win 2).blk t).view.emb j = j := by
  obtain ⟨e0, e1⟩ := idx_zero2 t
  funext a; apply Fin.ext
  match a with
  | ⟨0, _⟩ => show win0_2.index t (0 : Fin 2) * 24 + 1 * (j 0).val = (j 0).val; omega
  | ⟨1, _⟩ => show win0_2.index t (1 : Fin 2) * 1 + 1 * (j 1).val = (j 1).val; omega

/-- The array of scaled and turned products, after the call: what the body stores in its block. -/
theorem arr0 (c : Dev nD) : (dats m 0 c).arrAt 0 cfg0.N = (outsAt0 m c t0).1 := by
  refine (dats m 0 c).arrAt_eq_of_cover 0 _ (fun t _ => ?_) (fun i => ⟨t0, flush0_0 _, by
    have h := ((cfg0.win 0).blk t0).view.emb_mem_set i; rwa [emb0] at h⟩)
  show (cfg0.win 0).cut (grid0.coords t) ((dats m 0 c).after 0 t) = _
  rw [after0_0, eq_t0 t]
  funext j
  show (outsAt0 m c t0).1 j = (outsAt0 m c t0).1 (((cfg0.win 0).blk t0).view.emb j)
  rw [emb0]

/-- The array of codes, after the call. -/
theorem arr1 (c : Dev nD) : (dats m 0 c).arrAt 1 cfg0.N = (outsAt0 m c t0).2.1 := by
  refine (dats m 0 c).arrAt_eq_of_cover 1 _ (fun t _ => ?_) (fun i => ⟨t0, flush0_1 _, by
    have h := ((cfg0.win 1).blk t0).view.emb_mem_set i; rwa [emb1] at h⟩)
  show (cfg0.win 1).cut (grid0.coords t) ((dats m 0 c).after 1 t) = _
  rw [after0_1, eq_t0 t]
  funext j
  show (outsAt0 m c t0).2.1 j = (outsAt0 m c t0).2.1 (((cfg0.win 1).blk t0).view.emb j)
  rw [emb1]

/-- The array of scales, after the call. -/
theorem arr2 (c : Dev nD) : (dats m 0 c).arrAt 2 cfg0.N = (outsAt0 m c t0).2.2 := by
  refine (dats m 0 c).arrAt_eq_of_cover 2 _ (fun t _ => ?_) (fun i => ⟨t0, flush0_2 _, by
    have h := ((cfg0.win 2).blk t0).view.emb_mem_set i; rwa [emb2] at h⟩)
  show (cfg0.win 2).cut (grid0.coords t) ((dats m 0 c).after 2 t) = _
  rw [after0_2, eq_t0 t]
  funext j
  show (outsAt0 m c t0).2.2 j = (outsAt0 m c t0).2.2 (((cfg0.win 2).blk t0).view.emb j)
  rw [emb2]

theorem arr_inj : Function.Injective (Pipeline.arrRef spec0) := by decide

/-- The lines after the call find result 0 of the call as the body stored it. -/
theorem region0 (c : Dev nD) : Pipeline.withArrays (cfgs 0).spec c (V0 m c) (fun w => (dats m 0 c).arrAt w (cfgs 0).N)
    (Proc.tc.devRef main_v3_0) = (outsAt0 m c t0).1 :=
  (Pipeline.withArrays_arr spec0 arr_inj c (V0 m c) (fun w => (dats m 0 c).arrAt w cfg0.N) 0).trans (arr0 m c)

/-- The lines after the call find result 1 of the call as the body stored it. -/
theorem region1 (c : Dev nD) : Pipeline.withArrays (cfgs 0).spec c (V0 m c) (fun w => (dats m 0 c).arrAt w (cfgs 0).N)
    (Proc.tc.devRef main_v3_1) = (outsAt0 m c t0).2.1 :=
  (Pipeline.withArrays_arr spec0 arr_inj c (V0 m c) (fun w => (dats m 0 c).arrAt w cfg0.N) 1).trans (arr1 m c)

/-- The lines after the call find result 2 of the call as the body stored it. -/
theorem region2 (c : Dev nD) : Pipeline.withArrays (cfgs 0).spec c (V0 m c) (fun w => (dats m 0 c).arrAt w (cfgs 0).N)
    (Proc.tc.devRef main_v3_2) = (outsAt0 m c t0).2.2 :=
  (Pipeline.withArrays_arr spec0 arr_inj c (V0 m c) (fun w => (dats m 0 c).arrAt w cfg0.N) 2).trans (arr2 m c)

/-- The first result: the first 5120 columns of the products, by head. -/
theorem tail_q (c : Dev nD) : Pipeline.afterTail₀ cfgs (dats m) 0 (V0 m) [hostOps1] c main_v5
    = shapeCast S24x1x40x128 (extractStridedSlice S24x5120 ![0, 0] (outsAt0 m c t0).1 slices_S24x7168_S24x5120_0_0) shapeCasts_S24x5120_S24x1x40x128 := by
  unfold Pipeline.afterTail₀
  simp only [List.flatten_cons, List.flatten_nil, List.append_nil, hostOps1]
  after_results
  exact congrArg (fun X : Vec F S24x7168 .bf16 => shapeCast S24x1x40x128 (extractStridedSlice S24x5120 ![0, 0] X slices_S24x7168_S24x5120_0_0) shapeCasts_S24x5120_S24x1x40x128)
    (region0 m c)

/-- The second result: the next 1024 columns, by head. -/
theorem tail_k (c : Dev nD) : Pipeline.afterTail₀ cfgs (dats m) 0 (V0 m) [hostOps1] c main_v7
    = shapeCast S24x1x8x128 (extractStridedSlice S24x1024 ![0, 5120] (outsAt0 m c t0).1 slices_S24x7168_S24x1024_0_5120) shapeCasts_S24x1024_S24x1x8x128 := by
  unfold Pipeline.afterTail₀
  simp only [List.flatten_cons, List.flatten_nil, List.append_nil, hostOps1]
  after_results
  exact congrArg (fun X : Vec F S24x7168 .bf16 => shapeCast S24x1x8x128 (extractStridedSlice S24x1024 ![0, 5120] X slices_S24x7168_S24x1024_0_5120) shapeCasts_S24x1024_S24x1x8x128)
    (region0 m c)

/-- The third result: the last 1024 columns, by head. -/
theorem tail_v (c : Dev nD) : Pipeline.afterTail₀ cfgs (dats m) 0 (V0 m) [hostOps1] c main_v9
    = shapeCast S24x1x8x128 (extractStridedSlice S24x1024 ![0, 6144] (outsAt0 m c t0).1 slices_S24x7168_S24x1024_0_6144) shapeCasts_S24x1024_S24x1x8x128 := by
  unfold Pipeline.afterTail₀
  simp only [List.flatten_cons, List.flatten_nil, List.append_nil, hostOps1]
  after_results
  exact congrArg (fun X : Vec F S24x7168 .bf16 => shapeCast S24x1x8x128 (extractStridedSlice S24x1024 ![0, 6144] X slices_S24x7168_S24x1024_0_6144) shapeCasts_S24x1024_S24x1x8x128)
    (region0 m c)

/-- The fourth result: the codes. -/
theorem tail_codes (c : Dev nD) : Pipeline.afterTail₀ cfgs (dats m) 0 (V0 m) [hostOps1] c main_v10
    = shapeCast S24x1x5120 (outsAt0 m c t0).2.1 shapeCasts_S24x5120_S24x1x5120 := by
  unfold Pipeline.afterTail₀
  simp only [List.flatten_cons, List.flatten_nil, List.append_nil, hostOps1]
  after_results
  exact congrArg (fun X : Vec F S24x5120 .fp8e4m3 => shapeCast S24x1x5120 X shapeCasts_S24x5120_S24x1x5120)
    (region1 m c)

/-- The fifth result: the scales. -/
theorem tail_scale (c : Dev nD) : Pipeline.afterTail₀ cfgs (dats m) 0 (V0 m) [hostOps1] c main_v11
    = shapeCast S24x1x1 (outsAt0 m c t0).2.2 shapeCasts_S24x1_S24x1x1 := by
  unfold Pipeline.afterTail₀
  simp only [List.flatten_cons, List.flatten_nil, List.append_nil, hostOps1]
  after_results
  exact congrArg (fun X : Vec F S24x1 .f32 => shapeCast S24x1x1 X shapeCasts_S24x1_S24x1x1)
    (region2 m c)

/-- The run: each result is what the body stored, cut and reshaped; the arguments are unchanged. -/
theorem run : θ_run defs (onTc (τ := τ) (main (F := F))) ⟨m, fun _ => 0, ρ⟩ fun r => ∀ c : Dev nD,
      r.2.mem ((c : Thread nD τ).loc main_v5) = shapeCast S24x1x40x128 (extractStridedSlice S24x5120 ![0, 0] (outsAt0 m c t0).1 slices_S24x7168_S24x5120_0_0) shapeCasts_S24x5120_S24x1x40x128
      ∧ r.2.mem ((c : Thread nD τ).loc main_v7) = shapeCast S24x1x8x128 (extractStridedSlice S24x1024 ![0, 5120] (outsAt0 m c t0).1 slices_S24x7168_S24x1024_0_5120) shapeCasts_S24x1024_S24x1x8x128
      ∧ r.2.mem ((c : Thread nD τ).loc main_v9) = shapeCast S24x1x8x128 (extractStridedSlice S24x1024 ![0, 6144] (outsAt0 m c t0).1 slices_S24x7168_S24x1024_0_6144) shapeCasts_S24x1024_S24x1x8x128
      ∧ r.2.mem ((c : Thread nD τ).loc main_v10) = shapeCast S24x1x5120 (outsAt0 m c t0).2.1 shapeCasts_S24x5120_S24x1x5120
      ∧ r.2.mem ((c : Thread nD τ).loc main_v11) = shapeCast S24x1x1 (outsAt0 m c t0).2.2 shapeCasts_S24x1_S24x1x1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).2 main_v5 (Pipeline.mem_restRefs_of main_v5 (by decide) (by decide))).trans (tail_q m c),
      ((h c).2 main_v7 (Pipeline.mem_restRefs_of main_v7 (by decide) (by decide))).trans (tail_k m c),
      ((h c).2 main_v9 (Pipeline.mem_restRefs_of main_v9 (by decide) (by decide))).trans (tail_v m c),
      ((h c).2 main_v10 (Pipeline.mem_restRefs_of main_v10 (by decide) (by decide))).trans (tail_codes m c),
      ((h c).2 main_v11 (Pipeline.mem_restRefs_of main_v11 (by decide) (by decide))).trans (tail_scale m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelRun

end
-- ==== Proof.KernelReads.lean ====
/- What the kernel's loads out of scratch read, and the entry of the 24 x 7168 result that a tile holds. -/
module

public import proofs.«01_k».proof.Proof.Gen.KernelIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelTiles

open Cert.KernelIdeal Cert.KernelIdeal.Gen Idealize.ShloMosaic Idealize.ShloMosaic.TcCoe Idealize.SL.Sem

/-- One entry of the scaled product. -/
def proj (A : FVec Ideal S32x5120 .fp8e4m3) (s : FVec Ideal S24x1 .f32) (W : FVec Ideal S5120x7168 .fp8e4m3)
    (ws : FVec Ideal S1x7168 .f32) (r : Fin 24) (c : Fin 7168) : EReal :=
  (∑ k : Fin 5120, A (ix2 ⟨r.val, by omega⟩ k) * W (ix2 k c)) * s (ix2 r 0) * ws (ix2 0 c)

/-- One entry of the result: a column of the first 48 heads is turned with its partner 64 lanes away. -/
def tileY (A : FVec Ideal S32x5120 .fp8e4m3) (s : FVec Ideal S24x1 .f32) (cs sn : FVec Ideal S24x128 .f32)
    (W : FVec Ideal S5120x7168 .fp8e4m3) (ws : FVec Ideal S1x7168 .f32) (r : Fin 24) (c : Fin 7168) : EReal :=
  if c.val < 6144 then
    proj A s W ws r c * cs (ix2 r ⟨c.val % 128, by omega⟩)
      + proj A s W ws r ⟨c.val / 128 * 128 + (c.val % 128 + 64) % 128, by omega⟩ * sn (ix2 r ⟨c.val % 128, by omega⟩)
  else proj A s W ws r c

/-- A tile's entry that is turned through the rotary angle, at the whole array's column. -/
theorem turned_tile (A : FVec Ideal S32x5120 .fp8e4m3) (s : FVec Ideal S24x1 .f32) (cs sn : FVec Ideal S24x128 .f32)
    (W : FVec Ideal S5120x7168 .fp8e4m3) (ws : FVec Ideal S1x7168 .f32) (r : Fin 24) (l : Fin 128) (r' : Fin 24)
    (c c1 c2 : Fin 7168) (off : Nat) (hr : r'.val = r.val) (hc : c.val = off + l.val) (ho : off % 128 = 0) (hlt : off < 6144)
    (h1 : c1.val = off + l.val) (h2 : c2.val = off + (l.val + 128 - 64) % 128) :
    (∑ k : Fin 5120, A (ix2 ⟨r.val, by omega⟩ k) * W (ix2 k c1)) * s (ix2 r 0) * ws (ix2 0 c1) * cs (ix2 r l)
      + (∑ k : Fin 5120, A (ix2 ⟨r.val, by omega⟩ k) * W (ix2 k c2)) * s (ix2 r 0) * ws (ix2 0 c2) * sn (ix2 r l)
      = tileY A s cs sn W ws r' c := by
  obtain rfl : r' = r := Fin.ext hr
  obtain rfl : c1 = c := Fin.ext (h1.trans hc.symm)
  have e1 : (⟨c1.val % 128, by omega⟩ : Fin 128) = l := Fin.ext (by have := l.isLt; dsimp only; omega)
  have e2 : (⟨c1.val / 128 * 128 + (c1.val % 128 + 64) % 128, by omega⟩ : Fin 7168) = c2 :=
    Fin.ext (by have := l.isLt; dsimp only; omega)
  rw [tileY, if_pos (by omega), e1, e2]
  rfl

/-- A tile's entry that is left as it is, at the whole array's column. -/
theorem plain_tile (A : FVec Ideal S32x5120 .fp8e4m3) (s : FVec Ideal S24x1 .f32) (cs sn : FVec Ideal S24x128 .f32)
    (W : FVec Ideal S5120x7168 .fp8e4m3) (ws : FVec Ideal S1x7168 .f32) (r : Fin 24) (l : Fin 128) (r' : Fin 24)
    (c c1 : Fin 7168) (off : Nat) (hr : r'.val = r.val) (hc : c.val = off + l.val) (hge : 6144 ≤ off)
    (h1 : c1.val = off + l.val) :
    (∑ k : Fin 5120, A (ix2 ⟨r.val, by omega⟩ k) * W (ix2 k c1)) * s (ix2 r 0) * ws (ix2 0 c1)
      = tileY A s cs sn W ws r' c := by
  obtain rfl : r' = r := Fin.ext hr
  obtain rfl : c1 = c := Fin.ext (h1.trans hc.symm)
  rw [tileY, if_neg (by omega)]
  rfl

variable (m : (ℓ : Loc nD τ sig) → Buf (Elt Ideal) ℓ)

/-- The nine slabs of the weight, copied side by side, are the weight. -/
theorem slabs_eq (W : FVec Ideal S5120x7168 .fp8e4m3) :
    View.canon (Val := Elt Ideal) (s := S5120x7168) (e := .fp8e4m3)
      [⟨Rect.unit ![0, 6912] ![5120, 256] inb_S5120x7168_S5120x256_0_6912, ReadAs.same.apply (View.read (Elt Ideal)
          ((View.whole main_arg2).slice (Rect.unit ![0, 6912] ![5120, 256] inb_S5120x7168_S5120x256_0_6912)) W)⟩,
        ⟨Rect.unit ![0, 6656] ![5120, 256] inb_S5120x7168_S5120x256_0_6656, ReadAs.same.apply (View.read (Elt Ideal)
          ((View.whole main_arg2).slice (Rect.unit ![0, 6656] ![5120, 256] inb_S5120x7168_S5120x256_0_6656)) W)⟩,
        ⟨Rect.unit ![0, 6144] ![5120, 512] inb_S5120x7168_S5120x512_0_6144, ReadAs.same.apply (View.read (Elt Ideal)
          ((View.whole main_arg2).slice (Rect.unit ![0, 6144] ![5120, 512] inb_S5120x7168_S5120x512_0_6144)) W)⟩,
        ⟨Rect.unit ![0, 5120] ![5120, 1024] inb_S5120x7168_S5120x1024_0_5120, ReadAs.same.apply (View.read (Elt Ideal)
          ((View.whole main_arg2).slice (Rect.unit ![0, 5120] ![5120, 1024] inb_S5120x7168_S5120x1024_0_5120)) W)⟩,
        ⟨Rect.unit ![0, 4096] ![5120, 1024] inb_S5120x7168_S5120x1024_0_4096, ReadAs.same.apply (View.read (Elt Ideal)
          ((View.whole main_arg2).slice (Rect.unit ![0, 4096] ![5120, 1024] inb_S5120x7168_S5120x1024_0_4096)) W)⟩,
        ⟨Rect.unit ![0, 3072] ![5120, 1024] inb_S5120x7168_S5120x1024_0_3072, ReadAs.same.apply (View.read (Elt Ideal)
          ((View.whole main_arg2).slice (Rect.unit ![0, 3072] ![5120, 1024] inb_S5120x7168_S5120x1024_0_3072)) W)⟩,
        ⟨Rect.unit ![0, 2048] ![5120, 1024] inb_S5120x7168_S5120x1024_0_2048, ReadAs.same.apply (View.read (Elt Ideal)
          ((View.whole main_arg2).slice (Rect.unit ![0, 2048] ![5120, 1024] inb_S5120x7168_S5120x1024_0_2048)) W)⟩,
        ⟨Rect.unit ![0, 1024] ![5120, 1024] inb_S5120x7168_S5120x1024_0_1024, ReadAs.same.apply (View.read (Elt Ideal)
          ((View.whole main_arg2).slice (Rect.unit ![0, 1024] ![5120, 1024] inb_S5120x7168_S5120x1024_0_1024)) W)⟩,
        ⟨Rect.unit ![0, 0] ![5120, 1024] inb_S5120x7168_S5120x1024_0_0, ReadAs.same.apply (View.read (Elt Ideal)
          ((View.whole main_arg2).slice (Rect.unit ![0, 0] ![5120, 1024] inb_S5120x7168_S5120x1024_0_0)) W)⟩] = W := by
  funext y
  canon_tiles x h using (by
    have h0 : (y 0).val < 5120 := (y 0).isLt
    have h1 : (y 1).val < 7168 := (y 1).isLt
    simp only [List.exists_mem_cons_iff, Rect.mem_set_unit, Fin.forall_fin_two, List.not_mem_nil, false_and, exists_false,
      Matrix.cons_val_zero, Matrix.cons_val_one, Matrix.cons_val_fin_one]
    omega)
  all_goals (
    show W _ = W _
    congr 1
    funext a
    apply Fin.ext
    match a with
    | ⟨0, _⟩ => exact (Rect.idx_unit_val _ _ _ x _).trans ((Nat.zero_add _).trans h0.symm)
    | ⟨1, _⟩ => first
      | exact (Rect.idx_unit_val _ _ _ x _).trans h1.symm
      | exact (Rect.idx_unit_val _ _ _ x _).trans ((Nat.zero_add _).trans h1.symm))

theorem hz : (![0, 0] : Fin 2 → Nat) = fun _ => 0 := funext fun a => by fin_cases a <;> rfl

/-- The load of the tokens reads the array of tokens. -/
theorem read_x (c : Dev nD) :
    (View.whole cc0_scratch0).readCov (Val := Elt Ideal)
      [⟨Rect.whole S24x5120, ReadAs.same.apply (View.read (Elt Ideal) (View.whole main_v0) (V m c main_v0))⟩]
      (Rect.unit (s := S24x5120) ![0, 0] ![24, 5120] inb_S24x5120_S24x5120_0_0).toLoadRect = V m c main_v0 :=
  (View.readCov_fill (View.whole cc0_scratch0) _ _ [] _ fun _ => rfl).trans (View.ld_unit_zero hz _ _)

/-- The load of the gain reads the gain. -/
theorem read_g (c : Dev nD) :
    (View.whole cc0_scratch1).readCov (Val := Elt Ideal)
      [⟨Rect.whole S1x5120, ReadAs.same.apply (View.read (Elt Ideal) (View.whole main_v1) (V m c main_v1))⟩]
      (Rect.unit (s := S1x5120) ![0, 0] ![1, 5120] inb_S1x5120_S1x5120_0_0).toLoadRect = V m c main_v1 :=
  (View.readCov_fill (View.whole cc0_scratch1) _ _ [] _ fun _ => rfl).trans (View.ld_unit_zero hz _ _)

/-- The load of the positions reads the positions. -/
theorem read_p (c : Dev nD) :
    (View.whole cc0_scratch3).readCov (Val := Elt Ideal)
      [⟨Rect.whole S24x1, ReadAs.same.apply (View.read (Elt Ideal) (View.whole main_arg4) (V m c main_arg4))⟩]
      (Rect.unit (s := S24x1) ![0, 0] ![24, 1] inb_S24x1_S24x1_0_0).toLoadRect = V m c main_arg4 :=
  (View.readCov_fill (View.whole cc0_scratch3) _ _ [] _ fun _ => rfl).trans (View.ld_unit_zero hz _ _)

/-- A load out of the buffer of column scales reads the column scales. -/
theorem read_scales (c : Dev nD) (R : Rect S1x7168) :
    (View.whole cc0_scratch2).readCov (Val := Elt Ideal)
      [⟨Rect.whole S1x7168, ReadAs.same.apply (View.read (Elt Ideal) (View.whole main_v2) (V m c main_v2))⟩]
      R.toLoadRect = View.ld (Val := Elt Ideal) (e' := .f32) (V m c main_v2) R :=
  View.readCov_fill (View.whole cc0_scratch2) _ _ [] _ fun _ => rfl

/-- A load out of the weight's buffer reads the weight. -/
theorem read_slab (c : Dev nD) (R : Rect S5120x7168) :
    (View.whole cc0_scratch4).readCov (Val := Elt Ideal)
      [⟨Rect.unit (s := S5120x7168) ![0, 6912] ![5120, 256] inb_S5120x7168_S5120x256_0_6912, ReadAs.same.apply (View.read (Elt Ideal)
          ((View.whole main_arg2).slice (Rect.unit (s := S5120x7168) ![0, 6912] ![5120, 256] inb_S5120x7168_S5120x256_0_6912)) (V m c main_arg2))⟩,
        ⟨Rect.unit (s := S5120x7168) ![0, 6656] ![5120, 256] inb_S5120x7168_S5120x256_0_6656, ReadAs.same.apply (View.read (Elt Ideal)
          ((View.whole main_arg2).slice (Rect.unit (s := S5120x7168) ![0, 6656] ![5120, 256] inb_S5120x7168_S5120x256_0_6656)) (V m c main_arg2))⟩,
        ⟨Rect.unit (s := S5120x7168) ![0, 6144] ![5120, 512] inb_S5120x7168_S5120x512_0_6144, ReadAs.same.apply (View.read (Elt Ideal)
          ((View.whole main_arg2).slice (Rect.unit (s := S5120x7168) ![0, 6144] ![5120, 512] inb_S5120x7168_S5120x512_0_6144)) (V m c main_arg2))⟩,
        ⟨Rect.unit (s := S5120x7168) ![0, 5120] ![5120, 1024] inb_S5120x7168_S5120x1024_0_5120, ReadAs.same.apply (View.read (Elt Ideal)
          ((View.whole main_arg2).slice (Rect.unit (s := S5120x7168) ![0, 5120] ![5120, 1024] inb_S5120x7168_S5120x1024_0_5120)) (V m c main_arg2))⟩,
        ⟨Rect.unit (s := S5120x7168) ![0, 4096] ![5120, 1024] inb_S5120x7168_S5120x1024_0_4096, ReadAs.same.apply (View.read (Elt Ideal)
          ((View.whole main_arg2).slice (Rect.unit (s := S5120x7168) ![0, 4096] ![5120, 1024] inb_S5120x7168_S5120x1024_0_4096)) (V m c main_arg2))⟩,
        ⟨Rect.unit (s := S5120x7168) ![0, 3072] ![5120, 1024] inb_S5120x7168_S5120x1024_0_3072, ReadAs.same.apply (View.read (Elt Ideal)
          ((View.whole main_arg2).slice (Rect.unit (s := S5120x7168) ![0, 3072] ![5120, 1024] inb_S5120x7168_S5120x1024_0_3072)) (V m c main_arg2))⟩,
        ⟨Rect.unit (s := S5120x7168) ![0, 2048] ![5120, 1024] inb_S5120x7168_S5120x1024_0_2048, ReadAs.same.apply (View.read (Elt Ideal)
          ((View.whole main_arg2).slice (Rect.unit (s := S5120x7168) ![0, 2048] ![5120, 1024] inb_S5120x7168_S5120x1024_0_2048)) (V m c main_arg2))⟩,
        ⟨Rect.unit (s := S5120x7168) ![0, 1024] ![5120, 1024] inb_S5120x7168_S5120x1024_0_1024, ReadAs.same.apply (View.read (Elt Ideal)
          ((View.whole main_arg2).slice (Rect.unit (s := S5120x7168) ![0, 1024] ![5120, 1024] inb_S5120x7168_S5120x1024_0_1024)) (V m c main_arg2))⟩,
        ⟨Rect.unit (s := S5120x7168) ![0, 0] ![5120, 1024] inb_S5120x7168_S5120x1024_0_0, ReadAs.same.apply (View.read (Elt Ideal)
          ((View.whole main_arg2).slice (Rect.unit (s := S5120x7168) ![0, 0] ![5120, 1024] inb_S5120x7168_S5120x1024_0_0)) (V m c main_arg2))⟩] R.toLoadRect = View.ld (Val := Elt Ideal) (e' := .fp8e4m3) (V m c main_arg2) R :=
  (View.readCov_eq_canon' _ _ _).trans (congrArg (fun X : S5120x7168.Idx → Elt Ideal .fp8e4m3 => fun j => X (R.idx j)) (slabs_eq (V m c main_arg2)))

/-- The fp8 codes, padded with zero rows to 32 rows. -/
abbrev kA (X : FVec Ideal S24x5120 .bf16) (G : FVec Ideal S1x5120 .f32) : FVec Ideal S32x5120 .fp8e4m3 :=
  k0_pay15 (k0_pay14 (k0_pay4 (F := Ideal) X G) (k0_pay5 (F := Ideal) X G) (k0_pay7 (F := Ideal) X G) (k0_pay8 (F := Ideal) X G) k0_pay9)

/-- The scale of each row. -/
abbrev kS (X : FVec Ideal S24x5120 .bf16) (G : FVec Ideal S1x5120 .f32) : FVec Ideal S24x1 .f32 :=
  k0_pay11 (k0_pay5 (F := Ideal) X G) (k0_pay7 (F := Ideal) X G) (k0_pay8 (F := Ideal) X G) k0_pay9

end Cert.KernelTiles

end
-- ==== Proof.KernelTiles.lean ====
/- What the kernel leaves in its three result arrays, in terms of the arrays that it copies into scratch.

The 24 x 7168 result is stored in 56 tiles of 128 columns, each cut out of one of nine products of a slab of the weight.
Read at an index, a tile is `tileY`: the whole product's entry, turned through the rotary angle in the first 48 tiles. -/
module

public import proofs.«01_k».proof.Proof.KernelReads

@[expose] public section

set_option maxRecDepth 16384

noncomputable section

namespace Cert.KernelTiles

open Cert.KernelIdeal Cert.KernelIdeal.Gen Idealize.ShloMosaic Idealize.ShloMosaic.TcCoe Idealize.SL.Sem

variable (m : (ℓ : Loc nD τ sig) → Buf (Elt Ideal) ℓ)

set_option maxHeartbeats 4000000 in
theorem out_y (c : Dev nD) (t : Fin cfg0.N) : (outsAt0 m c t).1 = fun i : S24x7168.Idx => tileY (kA (V m c main_v0) (V m c main_v1)) (kS (V m c main_v0) (V m c main_v1)) (k0_pay17 (V m c main_arg4)) (k0_pay18 (V m c main_arg4)) (V m c main_arg2) (V m c main_v2) (i 0) (i 1) := by
  simp only [outsAt0]
  frame_out
  rw [read_x, read_g, read_p]
  iterate 9 rw [read_slab]
  iterate 9 rw [read_scales]
  unfold kA kS
  generalize k0_pay15 (k0_pay14 (k0_pay4 (V m c main_v0) (V m c main_v1)) (k0_pay5 (V m c main_v0) (V m c main_v1))
    (k0_pay7 (V m c main_v0) (V m c main_v1)) (k0_pay8 (V m c main_v0) (V m c main_v1)) k0_pay9) = A
  generalize k0_pay11 (k0_pay5 (V m c main_v0) (V m c main_v1)) (k0_pay7 (V m c main_v0) (V m c main_v1))
    (k0_pay8 (V m c main_v0) (V m c main_v1)) k0_pay9 = s
  generalize k0_pay17 (V m c main_arg4) = cs
  generalize k0_pay18 (V m c main_arg4) = sn
  generalize V m c main_arg2 = W
  generalize V m c main_v2 = ws
  funext y
  canon_tiles x h
  all_goals (
    idx_vars x
    pointwise [k0_pay1, k0_pay2, k0_pay3, k0_pay19, k0_pay20, k0_pay21, k0_pay22, k0_pay23, k0_pay24, k0_pay25, k0_pay26,
      k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay45, k0_pay46, k0_pay47, k0_pay48,
      k0_pay49, k0_pay50, k0_pay51, k0_pay52, k0_pay53, k0_pay54, k0_pay55, k0_pay56, k0_pay57, k0_pay58, k0_pay59,
      k0_pay60, k0_pay61, k0_pay62, k0_pay63, k0_pay64, k0_pay65, k0_pay66, k0_pay67, k0_pay68, k0_pay69, k0_pay70,
      k0_pay71, k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91, k0_pay92,
      k0_pay93, k0_pay94, k0_pay95]
    first
      | exact turned_tile A s cs sn W ws x0 x1 (y 0) (y 1) _ _ 0 h0 (by omega) rfl (by omega) (by first | rfl | (dsimp only; omega)) (by first | rfl | (dsimp only; omega))
      | exact turned_tile A s cs sn W ws x0 x1 (y 0) (y 1) _ _ _ h0 h1 (by omega) (by omega) (by first | rfl | (dsimp only; omega)) (by first | rfl | (dsimp only; omega))
      | exact plain_tile A s cs sn W ws x0 x1 (y 0) (y 1) _ _ h0 h1 (by omega) (by first | rfl | (dsimp only; omega)))

end Cert.KernelTiles

end
-- ==== Proof.Exponent.lean ====
/- The quantiser's exponent and its powers of two, on the extended reals.

   The kernel finds the exponent that `jnp.frexp` gives of a ratio by counting the f32 powers of two up to it, and
   makes a power of two by placing the biased exponent in an f32 word. The reference takes the floor of the base-2
   logarithm, and `2 ** e`. The two agree at every ratio that is not negative, infinity included. -/
module

public import Idealize.ShloMosaic.PureOps.Ideal
public import Idealize.ShloMosaic.PureOps.Ideal.Laws
public import Mathlib.Analysis.SpecialFunctions.Log.Basic

@[expose] public section

noncomputable section

namespace Cert.Exponent

open Idealize.ShloMosaic

/-- The f32 value whose exponent field is `k` and whose other bits are zero: zero, a power of two, or infinity. -/
def power (k : ℕ) : EReal := if k = 0 then 0 else if k = 255 then ⊤ else (((2 : ℝ) ^ ((k : ℤ) - 127) : ℝ) : EReal)

/-- The word with exponent field `k` reads as `power k`. -/
theorem ofBits_field (k : ℕ) (hk : k < 256) : Ideal.ofBits .f32 (BitVec.ofNat 32 k <<< 23) = power k := by
  have hs : (BitVec.ofNat 32 k <<< 23).extractLsb' (8 + 23) 1 = 0#1 := by
    apply BitVec.eq_of_toNat_eq
    simp only [BitVec.extractLsb'_toNat, BitVec.toNat_shiftLeft, BitVec.toNat_ofNat, Nat.shiftLeft_eq, Nat.shiftRight_eq_div_pow]
    omega
  have he : ((BitVec.ofNat 32 k <<< 23).extractLsb' 23 8).toNat = k := by
    simp only [BitVec.extractLsb'_toNat, BitVec.toNat_shiftLeft, BitVec.toNat_ofNat, Nat.shiftLeft_eq, Nat.shiftRight_eq_div_pow]
    omega
  have hf : ((BitVec.ofNat 32 k <<< 23).extractLsb' 0 23).toNat = 0 := by
    simp only [BitVec.extractLsb'_toNat, BitVec.toNat_shiftLeft, BitVec.toNat_ofNat, Nat.shiftLeft_eq, Nat.shiftRight_eq_div_pow]
    omega
  show Ideal.ieee 8 23 _ = _
  unfold Ideal.ieee power
  simp only [hs, he, hf]
  by_cases h0 : k = 0
  · simp [h0]
  by_cases h1 : k = 255
  · simp [h1]
  · simp only [h0, h1, if_false, show ¬ k = 2 ^ 8 - 1 from h1]
    have hz : ((k : ℤ) - (2 ^ (8 - 1) - 1) - 23) = ((k : ℤ) - 127) - 23 := by norm_num
    have hr : (1 : ℝ) * ((2 ^ 23 + 0 : ℕ) : ℝ) * (2 : ℝ) ^ (((k : ℤ) - 127) - 23) = (2 : ℝ) ^ ((k : ℤ) - 127) := by
      rw [zpow_sub₀ (by norm_num) ((k : ℤ) - 127) 23]
      push_cast
      field_simp
      norm_num
    exact congrArg (fun r : ℝ => (r : EReal)) hr

/-- The reference's exponent of a ratio: the floor of its base-2 logarithm and one, at most 128; zero outside the
    normal range. -/
def logExp (x : EReal) : EReal :=
  if (((2 : ℝ) ^ (-126 : ℤ) : ℝ) : EReal) ≤ x ∧ x < ⊤ then
    min (Ideal.liftRound Int.floor (Ideal.div (Ideal.log x) (Ideal.log 2)) + 1) 128 else 0

/-- The floor of the base-2 logarithm. -/
def log2 (r : ℝ) : ℤ := ⌊Real.log r / Real.log 2⌋

theorem zpow_le_iff (r : ℝ) (hr : 0 < r) (z : ℤ) : (2 : ℝ) ^ z ≤ r ↔ z ≤ log2 r := by
  rw [log2, Int.le_floor, le_div_iff₀ (Real.log_pos (by norm_num)), ← Real.log_zpow,
    Real.log_le_log_iff (by positivity) hr]

theorem floor_log (r : ℝ) (hr : 0 < r) :
    Ideal.liftRound Int.floor (Ideal.div (Ideal.log (r : EReal)) (Ideal.log 2)) = (((log2 r : ℤ) : ℝ) : EReal) := by
  have h2 : Ideal.log 2 = ((Real.log 2 : ℝ) : EReal) := by
    show Ideal.log (((2 : ℝ) : ℝ) : EReal) = _
    rw [Ideal.log_coe, if_neg (by norm_num)]
  rw [h2, Ideal.log_coe, if_neg (not_le.mpr hr), Ideal.div_coe (Real.log_pos (by norm_num)).ne', ← EReal.coe_mul,
    Ideal.liftRound_coe, mul_one_div, log2]

/-- How many f32 powers of two are at most `x`, and the reference's exponent in that number. -/
theorem exists_count (x : EReal) (hx : 0 ≤ x) : ∃ N : ℕ, N ≤ 256 ∧ (∀ k < 256, power k ≤ x ↔ k < N) ∧
    logExp x = (((if 1 < N ∧ N < 256 then (N : ℤ) - 127 else 0 : ℤ) : ℝ) : EReal) := by
  induction x using EReal.rec with
  | bot => exact absurd hx (by simp)
  | top => exact ⟨256, le_rfl, fun k hk => by simp [hk], by simp [logExp]⟩
  | coe r =>
    have hr : 0 ≤ r := by exact_mod_cast hx
    have hpow : ∀ k < 256, power k ≤ (r : EReal) ↔ k = 0 ∨ (k ≠ 255 ∧ (2 : ℝ) ^ ((k : ℤ) - 127) ≤ r) := by
      intro k _
      unfold power
      by_cases h0 : k = 0
      · simp [h0, hr]
      by_cases h1 : k = 255
      · simp [h1]
      · simp only [h0, h1, if_false, EReal.coe_le_coe_iff, false_or, ne_eq, not_false_eq_true, true_and]
    by_cases hn : (2 : ℝ) ^ (-126 : ℤ) ≤ r
    · have hr' : 0 < r := lt_of_lt_of_le (by positivity) hn
      have hlog : ∀ z : ℤ, (2 : ℝ) ^ z ≤ r ↔ z ≤ log2 r := zpow_le_iff r hr'
      have hl : -126 ≤ log2 r := (hlog _).mp hn
      have hexp : logExp (r : EReal) = ((min (((log2 r : ℤ) : ℝ) + 1) 128 : ℝ) : EReal) := by
        unfold logExp
        rw [if_pos ⟨by exact_mod_cast hn, EReal.coe_lt_top r⟩, floor_log r hr',
          show ((((log2 r : ℤ) : ℝ) : EReal) + 1) = ((((log2 r : ℤ) : ℝ) + 1 : ℝ) : EReal) from rfl]
        exact (EReal.coe_strictMono.monotone.map_min (a := ((log2 r : ℤ) : ℝ) + 1) (b := 128)).symm
      by_cases hb : log2 r ≤ 127
      · refine ⟨(log2 r + 128).toNat, by omega, fun k hk => ?_, ?_⟩
        · rw [hpow k hk, hlog]; omega
        · rw [hexp, if_pos (by omega), min_eq_left (by have : ((log2 r : ℤ) : ℝ) ≤ 127 := by exact_mod_cast hb
                                                       linarith)]
          congr 1
          rw [show (((log2 r + 128).toNat : ℕ) : ℤ) - 127 = log2 r + 1 by omega]
          push_cast; ring
      · refine ⟨255, by omega, fun k hk => ?_, ?_⟩
        · rw [hpow k hk, hlog]; omega
        · rw [hexp, if_pos (by omega), min_eq_right (by have : (128 : ℝ) ≤ ((log2 r : ℤ) : ℝ) := by exact_mod_cast (by omega : (128 : ℤ) ≤ log2 r)
                                                        linarith)]
          norm_num
    · refine ⟨1, by omega, fun k hk => ?_, ?_⟩
      · rw [hpow k hk]
        constructor
        · rintro (h | ⟨h, h'⟩)
          · omega
          · by_contra hc
            exact hn (le_trans (zpow_le_zpow_right₀ (by norm_num) (by omega)) h')
        · intro h; left; omega
      · have : ¬ ((((2 : ℝ) ^ (-126 : ℤ) : ℝ) : EReal) ≤ (r : EReal) ∧ (r : EReal) < ⊤) := fun h => hn (by exact_mod_cast h.1)
        unfold logExp
        rw [if_neg this]; simp

/-- A sum of ones over the numbers below 256 that satisfy a test true exactly of the numbers below `N` is `N`. -/
theorem sum_count (N : ℕ) (hN : N ≤ 256) (p : Fin 256 → Prop) [DecidablePred p] (hp : ∀ k : Fin 256, p k ↔ k.val < N) :
    (∑ k : Fin 256, if p k then (1 : EReal) else 0) = ((N : ℝ) : EReal) := by
  have h : (∑ k : Fin 256, if p k then (1 : ℕ) else 0) = N := by
    rw [Finset.sum_congr rfl fun k _ => if_congr (hp k) rfl rfl, Fin.sum_univ_eq_sum_range (fun k => if k < N then 1 else 0) 256,
      ← Finset.sum_filter, Finset.sum_const, smul_eq_mul, mul_one]
    have : Finset.filter (fun k => k < N) (Finset.range 256) = Finset.range N := by
      ext k; simp only [Finset.mem_filter, Finset.mem_range]; omega
    rw [this, Finset.card_range]
  have h' : (((∑ k : Fin 256, if p k then (1 : ℕ) else 0) : ℕ) : EReal) = ((N : ℝ) : EReal) := by rw [h]; simp
  rw [← h']
  push_cast
  exact Finset.sum_congr rfl fun k _ => by split_ifs <;> simp

/-- `2 ** e` with f32's overflow to infinity and underflow to zero, as the reference spells it. -/
def satPow (e : EReal) : EReal := if 127 < e then ⊤ else if e < -126 then 0 else Ideal.exp2 e

/-- The kernel's power of two by the word's exponent field is the reference's. -/
theorem power_clamp (n : ℤ) : power (max 0 (min 255 (n + 127))).toNat = satPow (((n : ℝ)) : EReal) := by
  have h1 : ((127 : EReal) < (((n : ℝ)) : EReal)) ↔ 127 < n := by
    rw [show (127 : EReal) = ((127 : ℝ) : EReal) from rfl, EReal.coe_lt_coe_iff]; exact_mod_cast Iff.rfl
  have h2 : ((((n : ℝ)) : EReal) < -126) ↔ n < -126 := by
    rw [show (-126 : EReal) = ((-126 : ℝ) : EReal) from rfl, EReal.coe_lt_coe_iff]; exact_mod_cast Iff.rfl
  unfold satPow power
  simp only [h1, h2]
  by_cases ha : 127 < n
  · rw [if_pos ha, if_neg (by omega), if_pos (by omega)]
  by_cases hb : n < -126
  · rw [if_neg ha, if_pos hb, if_pos (by omega)]
  · rw [if_neg ha, if_neg hb, if_neg (by omega), if_neg (by omega), Ideal.exp2_coe]
    congr 1
    rw [show (((max 0 (min 255 (n + 127))).toNat : ℕ) : ℤ) - 127 = n by omega]
    exact (Real.rpow_intCast 2 n).symm

end Cert.Exponent

end
-- ==== Proof.Scale.lean ====
/- The quantiser's exponent and its two scales, as the kernel's words compute them and as the reference's floats do.

The kernel's exponent `wordExp` and the reference's `floatExp` are the same integer (`exists_exp`), and the power of two
that the kernel assembles from an exponent word is the reference's `2 ** e` (`wordScale_ofInt`). -/
module

public import proofs.«01_k».proof.Proof.Exponent
public import Idealize.ShloMosaic.Lib.Pointwise

@[expose] public section

noncomputable section

namespace Cert.Scale

open Idealize.ShloMosaic Cert.Exponent

/-- The kernel's number of f32 powers of two that are at most `x`. -/
def count (x : EReal) : BitVec 32 :=
  FloatOps.fptosi (F := Ideal) (φ := .f32) 32
    (∑ k : Fin 256, if Ideal.ofBits .f32 (IntOp.shli .vector (BitVec.ofNat 32 k.val) 23#32) ≤ x then (1 : EReal) else 0)

/-- The kernel's exponent of the ratio `x` of a row whose largest magnitude is `a`. -/
def wordExp (a x : EReal) : BitVec 32 :=
  if a = 0 then 0#32 else
    Scalar.select (IntOp.andi (IntOp.cmpi .sgt (count x) 1#32) (IntOp.cmpi .slt (count x) 256#32))
      (IntOp.subi (count x) 127#32) 0#32

/-- The kernel's power of two of an exponent word. -/
def wordScale (e : BitVec 32) : EReal :=
  Ideal.ofBits .f32 (IntOp.shli .vector (IntOp.minsi 255#32 (IntOp.maxsi 0#32 (IntOp.addi e 127#32))) 23#32)

/-- The reference's exponent of the ratio `x` of a row whose largest magnitude is `a`. -/
def floatExp (a x : EReal) : EReal :=
  if a = 0 then 0 else
    Scalar.select (IntOp.andi (BitVec.ofBool (decide (Ideal.ofBits .f32 8388608#32 ≤ x)))
        (BitVec.ofBool (decide (x < Ideal.ofBits .f32 2139095040#32))))
      (min (Ideal.liftRound Int.floor (Ideal.div (Ideal.log x) (Ideal.log (Ideal.ofBits .f32 1073741824#32))) + 1)
        (Ideal.ofBits .f32 1124073472#32)) 0

/-- The reference's power of two of an exponent. -/
def floatScale (e : EReal) : EReal :=
  if Ideal.ofBits .f32 1123942400#32 < e then Ideal.ofBits .f32 2139095040#32 else
    if e < Ideal.ofBits .f32 3271294976#32 then 0 else FloatOps.exp2 (F := Ideal) (φ := .f32) e

/-! ## The constants -/

theorem c_normal : Ideal.ofBits .f32 8388608#32 = (((2 : ℝ) ^ (-126 : ℤ) : ℝ) : EReal) := by
  have h := ofBits_field 1 (by norm_num)
  rw [show (BitVec.ofNat 32 1 <<< 23) = 8388608#32 by decide] at h
  rw [h]; simp [power]

theorem c_inf : Ideal.ofBits .f32 2139095040#32 = ⊤ := by
  have h := ofBits_field 255 (by norm_num)
  rw [show (BitVec.ofNat 32 255 <<< 23) = 2139095040#32 by decide] at h
  rw [h]; simp [power]

theorem c_two : Ideal.ofBits .f32 1073741824#32 = 2 := by
  have h := ofBits_field 128 (by norm_num)
  rw [show (BitVec.ofNat 32 128 <<< 23) = 1073741824#32 by decide] at h
  rw [h]; simp [power]; rfl

theorem c_128 : Ideal.ofBits .f32 1124073472#32 = 128 := by
  simp [Ideal.ofBits, Ideal.ieee, -EReal.coe_mul]; norm_num; rfl

theorem c_127 : Ideal.ofBits .f32 1123942400#32 = 127 := by
  simp [Ideal.ofBits, Ideal.ieee, -EReal.coe_mul]; norm_num; rfl

theorem c_neg126 : Ideal.ofBits .f32 3271294976#32 = -126 := by
  simp [Ideal.ofBits, Ideal.ieee, -EReal.coe_mul]; norm_num; rfl

/-- The reciprocal of 448 that both programs multiply the largest magnitude by is not negative. -/
theorem c_inv448 : 0 ≤ Ideal.ofBits .f32 991054117#32 := by
  simp [Ideal.ofBits, Ideal.ieee, -EReal.coe_mul]

theorem c_bot : Ideal.ofBits .f32 4286578688#32 = ⊥ := by
  simp [Ideal.ofBits, Ideal.ieee]

/-! ## The exponent -/

theorem floatExp_eq (a x : EReal) : floatExp a x = if a = 0 then 0 else logExp x := by
  unfold floatExp logExp
  rw [c_normal, c_inf, c_two, c_128]
  generalize (((2 : ℝ) ^ (-126 : ℤ) : ℝ) : EReal) = lo
  by_cases h1 : lo ≤ x <;> by_cases h2 : x < ⊤ <;>
    simp [h1, h2, Scalar.select, IntOp.andi]

theorem shli_word (k : Fin 256) : IntOp.shli .vector (BitVec.ofNat 32 k.val) 23#32 = BitVec.ofNat 32 k.val <<< 23 := by
  simp [IntOp.shli]

theorem count_eq (x : EReal) (N : ℕ) (hN : N ≤ 256) (h : ∀ k < 256, power k ≤ x ↔ k < N) : count x = BitVec.ofInt 32 N := by
  unfold count
  rw [sum_count N hN _ fun k => by rw [shli_word, ofBits_field k.val k.isLt]; exact h k.val k.isLt]
  show BitVec.ofInt 32 (Ideal.toIntClamped _ _ _) = _
  rw [Ideal.toIntClamped_coe, if_pos (Nat.cast_nonneg N), Int.floor_natCast]
  congr 1
  norm_num
  omega

/-- The kernel's select, on each count it can meet. -/
theorem select_count : ∀ N : Fin 257,
    Scalar.select (IntOp.andi (IntOp.cmpi .sgt (BitVec.ofInt 32 (N.val : ℤ)) 1#32) (IntOp.cmpi .slt (BitVec.ofInt 32 (N.val : ℤ)) 256#32))
      (IntOp.subi (BitVec.ofInt 32 (N.val : ℤ)) 127#32) 0#32
    = BitVec.ofInt 32 (if 1 < N.val ∧ N.val < 256 then (N.val : ℤ) - 127 else 0) := by decide +kernel

/-- The two exponents are one integer of at most 128 in magnitude. -/
theorem exists_exp (a x : EReal) (hx : 0 ≤ x) : ∃ n : ℤ, -128 ≤ n ∧ n ≤ 128 ∧
    wordExp a x = BitVec.ofInt 32 n ∧ floatExp a x = (((n : ℤ) : ℝ) : EReal) := by
  rw [floatExp_eq]
  unfold wordExp
  by_cases ha : a = 0
  · exact ⟨0, by norm_num, by norm_num, by simp [ha], by simp [ha]⟩
  · obtain ⟨N, hN, hle, hexp⟩ := exists_count x hx
    refine ⟨if 1 < N ∧ N < 256 then (N : ℤ) - 127 else 0, by split_ifs <;> omega, by split_ifs <;> omega, ?_, ?_⟩
    · rw [if_neg ha, count_eq x N hN hle]
      exact select_count ⟨N, by omega⟩
    · rw [if_neg ha, hexp]

/-! ## The scales -/

/-- The exponent field that the kernel clamps to, on each exponent it can meet. -/
theorem field_word : ∀ j : Fin 257,
    IntOp.shli .vector (IntOp.minsi 255#32 (IntOp.maxsi 0#32 (IntOp.addi (BitVec.ofInt 32 ((j.val : ℤ) - 128)) 127#32))) 23#32
    = BitVec.ofNat 32 (max 0 (min 255 (((j.val : ℤ) - 128) + 127))).toNat <<< 23 := by decide +kernel

theorem neg_word : ∀ j : Fin 257,
    IntOp.subi 0#32 (BitVec.ofInt 32 ((j.val : ℤ) - 128)) = BitVec.ofInt 32 (-((j.val : ℤ) - 128)) := by decide +kernel

theorem floatScale_eq (e : EReal) : floatScale e = satPow e := by
  unfold floatScale satPow
  rw [c_127, c_inf, c_neg126]
  rfl

theorem wordScale_ofInt (n : ℤ) (h1 : -128 ≤ n) (h2 : n ≤ 128) : wordScale (BitVec.ofInt 32 n) = floatScale (((n : ℤ) : ℝ) : EReal) := by
  have h := field_word ⟨(n + 128).toNat, by omega⟩
  have hn : (((n + 128).toNat : ℕ) : ℤ) - 128 = n := by omega
  simp only [hn] at h
  unfold wordScale
  rw [h, ofBits_field _ (by omega), power_clamp, floatScale_eq]

/-- The kernel's scale of a row is the reference's. -/
theorem scale_eq (a x : EReal) (hx : 0 ≤ x) : wordScale (wordExp a x) = floatScale (floatExp a x) := by
  obtain ⟨n, h1, h2, hw, hf⟩ := exists_exp a x hx
  rw [hw, hf, wordScale_ofInt n h1 h2]

/-- And so is the inverse scale, made from the negated exponent. -/
theorem inv_scale_eq (a x : EReal) (hx : 0 ≤ x) :
    wordScale (IntOp.subi 0#32 (wordExp a x)) = floatScale (0 - floatExp a x) := by
  obtain ⟨n, h1, h2, hw, hf⟩ := exists_exp a x hx
  have h := neg_word ⟨(n + 128).toNat, by omega⟩
  have hn : (((n + 128).toNat : ℕ) : ℤ) - 128 = n := by omega
  simp only [hn] at h
  rw [hw, hf, h, wordScale_ofInt (-n) (by omega) (by omega)]
  congr 1
  rw [show (0 : EReal) = ((0 : ℝ) : EReal) from rfl, ← EReal.coe_sub]
  push_cast
  simp

end Cert.Scale

end
-- ==== Proof.Values.lean ====
/- The mathematics that both programs compute, entry by entry: the normalised token, its row's scale, its codes, the scaled
product and the rotary turn. -/
module

public import proofs.«01_k».proof.Proof.Scale

@[expose] public section

noncomputable section

namespace Cert.Values

open Idealize.ShloMosaic Cert.Scale

section
variable (x : Fin 24 → Fin 5120 → EReal) (g : Fin 5120 → EReal) (W : Fin 5120 → Fin 7168 → EReal) (ws : Fin 7168 → EReal)
  (p : Fin 24 → BitVec 32)

/-- The token divided by the root of its mean square (with the epsilon inside), times the gain. -/
def hn (r : Fin 24) (k : Fin 5120) : EReal :=
  x r k * Ideal.rsqrt (Ideal.div (∑ j, x r j * x r j) (Ideal.ofBits .f32 1168113664#32) + Ideal.ofBits .f32 897988541#32) * g k

/-- The row's largest magnitude. -/
def amax (r : Fin 24) : EReal :=
  Finset.fold max (Ideal.ofBits .f32 4286578688#32) (fun j => FloatOps.absf (F := Ideal) (φ := .f32) (hn x g r j)) Finset.univ

/-- The largest magnitude over the largest code. -/
def ratio (r : Fin 24) : EReal := amax x g r * Ideal.ofBits .f32 991054117#32

/-- The row's scale: the power of two above the ratio. -/
def scale (r : Fin 24) : EReal := floatScale (floatExp (amax x g r) (ratio x g r))

/-- The inverse of the row's scale. -/
def inv (r : Fin 24) : EReal := floatScale (0 - floatExp (amax x g r) (ratio x g r))

/-- The token's code: the scaled token, clipped. -/
def code (r : Fin 24) (k : Fin 5120) : EReal :=
  min (Ideal.ofBits .f32 1138753536#32) (max (Ideal.ofBits .f32 3286237184#32) (hn x g r k * inv x g r))

/-- One entry of the product of codes, scaled by row and by column. -/
def prod (r : Fin 24) (c : Fin 7168) : EReal := (∑ k, code x g r k * W k c) * scale x g r * ws c

/-- The rotary angle of a lane. -/
def angle (r : Fin 24) (l : Fin 128) : EReal :=
  FloatOps.sitofp (F := Ideal) .f32 (p r) * Ideal.div 1 (Ideal.pow (Ideal.ofBits .f32 1176256512#32)
    (Ideal.div (FloatOps.sitofp (F := Ideal) .f32 (IntOp.muli 2#32 (BitVec.ofNat 32 (l.val % 64)))) (Ideal.ofBits .f32 1124073472#32)))

/-- One entry of a head (its columns start at `o`), turned through the rotary angle. -/
def turned (r : Fin 24) (o : Nat) (ho : o + 128 ≤ 7168) (l : Fin 128) : EReal :=
  prod x g W ws r ⟨o + l.val, by omega⟩ * Ideal.cos (angle p r l)
    + (if h : l.val < 64 then 0 - prod x g W ws r ⟨o + (64 + l.val), by omega⟩ else prod x g W ws r ⟨o + (l.val - 64), by omega⟩)
      * Ideal.sin (angle p r l)

end

/-- A largest magnitude is not negative. -/
theorem amax_nonneg (x : Fin 24 → Fin 5120 → EReal) (g : Fin 5120 → EReal) (r : Fin 24) : 0 ≤ amax x g r := by
  unfold amax
  rw [Finset.le_fold_max]
  refine Or.inr ⟨0, Finset.mem_univ _, ?_⟩
  show 0 ≤ max (hn x g r 0) (-(hn x g r 0))
  rcases le_total 0 (hn x g r 0) with h | h
  · exact le_max_of_le_left h
  · exact le_max_of_le_right (EReal.neg_nonneg.mpr h)

theorem ratio_nonneg (x : Fin 24 → Fin 5120 → EReal) (g : Fin 5120 → EReal) (r : Fin 24) : 0 ≤ ratio x g r :=
  mul_nonneg (amax_nonneg x g r) c_inv448

/-- The kernel's scale, by words, is the scale. -/
theorem word_scale (x : Fin 24 → Fin 5120 → EReal) (g : Fin 5120 → EReal) (r : Fin 24) :
    wordScale (wordExp (amax x g r) (ratio x g r)) = scale x g r := scale_eq _ _ (ratio_nonneg x g r)

theorem word_inv (x : Fin 24 → Fin 5120 → EReal) (g : Fin 5120 → EReal) (r : Fin 24) :
    wordScale (IntOp.subi 0#32 (wordExp (amax x g r) (ratio x g r))) = inv x g r := inv_scale_eq _ _ (ratio_nonneg x g r)

/-- The kernel's lane number in its half, as a word. -/
theorem lane_select : ∀ l : Fin 128,
    Scalar.select (IntOp.cmpi .slt (BitVec.ofNat 32 l.val) 64#32) (BitVec.ofNat 32 l.val) (IntOp.subi (BitVec.ofNat 32 l.val) 64#32)
      = BitVec.ofNat 32 (l.val % 64) := by decide +kernel

theorem lane_low : ∀ l : Fin 128, (IntOp.cmpi .slt (BitVec.ofNat 32 l.val) 64#32 = 1) ↔ l.val < 64 := by decide +kernel

end Cert.Values

end
-- ==== Proof.KernelValues.lean ====
/- The kernel's values at an index: the values that its body computes are those of Values.lean. -/
module

public import proofs.«01_k».proof.Proof.Gen.KernelIdeal.Skeleton
public import proofs.«01_k».proof.Proof.Values
public import Idealize.ShloMosaic.Lib.Pointwise

@[expose] public section

set_option maxRecDepth 16384

noncomputable section

namespace Cert.KernelValues

open Cert.KernelIdeal Cert.KernelIdeal.Gen Idealize.ShloMosaic Idealize.ShloMosaic.TcCoe Idealize.SL.Sem
open Cert.Values Cert.Scale

variable (X : FVec Ideal S24x5120 .bf16) (G : FVec Ideal S1x5120 .f32)

/-- The tokens and the gain by row and column. -/
abbrev xs : Fin 24 → Fin 5120 → EReal := fun r k => X (ix2 r k)
abbrev gs : Fin 5120 → EReal := fun k => G (ix2 0 k)

theorem pay4 (r : Fin 24) (k : Fin 5120) : k0_pay4 (F := Ideal) X G (ix2 r k) = hn (xs X) (gs G) r k := by
  pointwise [k0_pay4]
  rfl

theorem pay5 (r : Fin 24) : k0_pay5 (F := Ideal) X G (ix2 r 0) = amax (xs X) (gs G) r := by
  unfold amax
  simp only [← pay4]
  pointwise [k0_pay5]

theorem pay6 (r : Fin 24) : k0_pay6 (F := Ideal) X G (ix2 r 0) = count (ratio (xs X) (gs G) r) := by
  unfold ratio
  rw [← pay5]
  pointwise [k0_pay6]
  rfl

/-- The row's exponent, as the kernel selects it. -/
theorem exp_eq (r : Fin 24) :
    (if k0_pay5 (F := Ideal) X G (ix2 r 0) = 0 then 0#32 else
      Scalar.select (k0_pay7 (F := Ideal) X G (ix2 r 0)) (k0_pay8 (F := Ideal) X G (ix2 r 0)) (k0_pay9 (ix2 r 0)))
      = wordExp (amax (xs X) (gs G) r) (ratio (xs X) (gs G) r) := by
  unfold wordExp
  rw [← pay5, ← pay6]
  pointwise [k0_pay7, k0_pay8, k0_pay9]

theorem pay11 (r : Fin 24) :
    k0_pay11 (k0_pay5 (F := Ideal) X G) (k0_pay7 (F := Ideal) X G) (k0_pay8 (F := Ideal) X G) k0_pay9 (ix2 r 0)
      = scale (xs X) (gs G) r := by
  rw [← word_scale, ← exp_eq]
  generalize k0_pay5 (F := Ideal) X G = a
  generalize k0_pay7 (F := Ideal) X G = b
  generalize k0_pay8 (F := Ideal) X G = d
  unfold wordScale
  pointwise [k0_pay11, k0_pay10, k0_pay9]

theorem pay12 (r : Fin 24) (k : Fin 5120) :
    k0_pay12 (k0_pay4 (F := Ideal) X G) (k0_pay5 (F := Ideal) X G) (k0_pay7 (F := Ideal) X G) (k0_pay8 (F := Ideal) X G) k0_pay9 (ix2 r k)
      = code (xs X) (gs G) r k := by
  unfold code
  rw [← word_inv, ← exp_eq, ← pay4]
  generalize k0_pay4 (F := Ideal) X G = h
  generalize k0_pay5 (F := Ideal) X G = a
  generalize k0_pay7 (F := Ideal) X G = b
  generalize k0_pay8 (F := Ideal) X G = d
  unfold wordScale
  pointwise [k0_pay12, k0_pay10, k0_pay9]

theorem pay13 (r : Fin 24) (k : Fin 5120) :
    k0_pay13 (k0_pay4 (F := Ideal) X G) (k0_pay5 (F := Ideal) X G) (k0_pay7 (F := Ideal) X G) (k0_pay8 (F := Ideal) X G) k0_pay9 (ix2 r k)
      = code (xs X) (gs G) r k := by
  rw [← pay12]
  pointwise [k0_pay13]

theorem pay15 (r : Fin 24) (k : Fin 5120) :
    k0_pay15 (k0_pay14 (k0_pay4 (F := Ideal) X G) (k0_pay5 (F := Ideal) X G) (k0_pay7 (F := Ideal) X G) (k0_pay8 (F := Ideal) X G) k0_pay9)
      (ix2 ⟨r.val, by omega⟩ k) = code (xs X) (gs G) r k := by
  rw [← pay12]
  pointwise [k0_pay15, k0_pay14]

variable (P : IVec S24x1 32)

theorem pay16 (r : Fin 24) (l : Fin 128) : k0_pay16 (F := Ideal) P (ix2 r l) = angle (fun r => P (ix2 r 0)) r l := by
  unfold angle
  rw [← lane_select]
  pointwise [k0_pay16]

theorem pay17 (r : Fin 24) (l : Fin 128) : k0_pay17 (F := Ideal) P (ix2 r l) = Ideal.cos (angle (fun r => P (ix2 r 0)) r l) := by
  rw [← pay16]
  pointwise [k0_pay17]

theorem pay18 (r : Fin 24) (l : Fin 128) : k0_pay18 (F := Ideal) P (ix2 r l)
    = if l.val < 64 then 0 - Ideal.sin (angle (fun r => P (ix2 r 0)) r l) else Ideal.sin (angle (fun r => P (ix2 r 0)) r l) := by
  rw [← pay16]
  pointwise [k0_pay18]
  simp only [Scalar.select, lane_low]

end Cert.KernelValues

end
-- ==== Proof.KernelOuts.lean ====
/- The kernel's codes, its scales and its turned heads, at an index, in terms of Values.lean. -/
module

public import proofs.«01_k».proof.Proof.KernelReads
public import proofs.«01_k».proof.Proof.KernelValues
public import Idealize.ShloMosaic.Lib.Claim

@[expose] public section

set_option maxRecDepth 16384

noncomputable section

namespace Cert.KernelOuts

open Cert.KernelIdeal Cert.KernelIdeal.Gen Idealize.ShloMosaic Idealize.ShloMosaic.TcCoe Idealize.SL.Sem
open Cert.KernelTiles Cert.KernelValues Cert.Values

variable (m : (ℓ : Loc nD τ sig) → Buf (Elt Ideal) ℓ)

/-- The array of codes: one store of all the codes. -/
theorem out_codes (c : Dev nD) (t : Fin cfg0.N) : (outsAt0 m c t).2.1
    = k0_pay13 (k0_pay4 (F := Ideal) (V m c main_v0) (V m c main_v1)) (k0_pay5 (F := Ideal) (V m c main_v0) (V m c main_v1))
        (k0_pay7 (F := Ideal) (V m c main_v0) (V m c main_v1)) (k0_pay8 (F := Ideal) (V m c main_v0) (V m c main_v1)) k0_pay9 := by
  simp only [outsAt0]
  frame_out
  rw [read_x, read_g]

/-- The array of scales: one store of all the scales. -/
theorem out_scale (c : Dev nD) (t : Fin cfg0.N) : (outsAt0 m c t).2.2 = kS (V m c main_v0) (V m c main_v1) := by
  simp only [outsAt0]
  frame_out
  rw [read_x, read_g]

/-- The tokens that the call finds are the first argument, without its axis of one. -/
theorem entry_x (c : Dev nD) : V m c main_v0 = shapeCast S24x5120 (m ((c : Thread nD τ).loc main_arg0)) shapeCasts_S24x1x5120_S24x5120 := by
  entry_read
  simp only [List.flatten_cons, List.flatten_nil, List.append_nil, hostOps0]
  after_results
  rfl

theorem entry_g (c : Dev nD) : V m c main_v1 = shapeCast S1x5120 (m ((c : Thread nD τ).loc main_arg1)) shapeCasts_S5120_S1x5120 := by
  entry_read
  simp only [List.flatten_cons, List.flatten_nil, List.append_nil, hostOps0]
  after_results
  rfl

theorem entry_scales (c : Dev nD) : V m c main_v2 = shapeCast S1x7168 (m ((c : Thread nD τ).loc main_arg3)) shapeCasts_S7168_S1x7168 := by
  entry_read
  simp only [List.flatten_cons, List.flatten_nil, List.append_nil, hostOps0]
  after_results
  rfl

section
variable (X : FVec Ideal S24x5120 .bf16) (G : FVec Ideal S1x5120 .f32) (W : FVec Ideal S5120x7168 .fp8e4m3)
  (ws : FVec Ideal S1x7168 .f32) (P : IVec S24x1 32)

abbrev Ws : Fin 5120 → Fin 7168 → EReal := fun k c => W (ix2 k c)
abbrev wss : Fin 7168 → EReal := fun c => ws (ix2 0 c)

theorem proj_eq (r : Fin 24) (c : Fin 7168) : proj (kA X G) (kS X G) W ws r c = prod (xs X) (gs G) (Ws W) (wss ws) r c := by
  unfold proj prod kA kS
  rw [pay11]
  simp only [pay15]

/-- A column of the last eight heads is the product's. -/
theorem tile_plain (cs sn : FVec Ideal S24x128 .f32) (r : Fin 24) (c : Fin 7168) (h : 6144 ≤ c.val) :
    tileY (kA X G) (kS X G) cs sn W ws r c = prod (xs X) (gs G) (Ws W) (wss ws) r c := by
  rw [tileY, if_neg (by omega), proj_eq]

/-- A column of the other heads is the product's, turned. -/
theorem tile_turned (r : Fin 24) (c : Fin 7168) (o : Nat) (l : Fin 128) (ho : o + 128 ≤ 6144) (h128 : o % 128 = 0)
    (hc : c.val = o + l.val) :
    tileY (kA X G) (kS X G) (k0_pay17 (F := Ideal) P) (k0_pay18 (F := Ideal) P) W ws r c
      = turned (xs X) (gs G) (Ws W) (wss ws) (fun r => P (ix2 r 0)) r o (by omega) l := by
  have hl := l.isLt
  have e0 : (⟨c.val % 128, by omega⟩ : Fin 128) = l := Fin.ext (by dsimp only; omega)
  have e1 : (⟨o + l.val, by omega⟩ : Fin 7168) = c := Fin.ext hc.symm
  rw [tileY, if_pos (by omega), turned, proj_eq, proj_eq, e0, e1, pay17, pay18]
  congr 1
  by_cases h : l.val < 64
  · have e2 : (⟨c.val / 128 * 128 + (c.val % 128 + 64) % 128, by omega⟩ : Fin 7168) = ⟨o + (64 + l.val), by omega⟩ :=
      Fin.ext (by dsimp only; omega)
    rw [if_pos h, dif_pos h, e2, zero_sub, zero_sub, mul_neg, neg_mul]
  · have e2 : (⟨c.val / 128 * 128 + (c.val % 128 + 64) % 128, by omega⟩ : Fin 7168) = ⟨o + (l.val - 64), by omega⟩ :=
      Fin.ext (by dsimp only; omega)
    rw [if_neg h, dif_neg h, e2]
end

end Cert.KernelOuts

end
-- ==== Proof.ReferenceValues.lean ====
/- The reference's values at an index: the five results are those of Values.lean. -/
module

public import proofs.«01_k».proof.Proof.ReferenceRun
public import proofs.«01_k».proof.Proof.Values
public import Idealize.ShloMosaic.Lib.Pointwise

@[expose] public section

set_option maxRecDepth 16384

noncomputable section

namespace Cert.ReferenceValues

open Cert.ReferenceIdeal Cert.ReferenceIdeal.Gen Idealize.ShloMosaic Idealize.ShloMosaic.TcCoe Idealize.SL.Sem
open Cert.Values Cert.Scale Cert.ReferenceRun

variable (X : FVec Ideal S24x1x5120 .bf16) (G : FVec Ideal S5120 .f32)

/-- The tokens and the gain by row and column. -/
abbrev xs : Fin 24 → Fin 5120 → EReal := fun r k => X (ix3 r 0 k)
abbrev gs : Fin 5120 → EReal := fun k => G (ix1 k)

theorem pay4 (r : Fin 24) (k : Fin 5120) : k0_pay4 (F := Ideal) X G (ix2 r k) = hn (xs X) (gs G) r k := by
  pointwise [k0_pay4]
  rfl

theorem pay5 (r : Fin 24) : k0_pay5 (F := Ideal) X G (ix2 r 0) = amax (xs X) (gs G) r := by
  unfold amax
  simp only [← pay4]
  pointwise [k0_pay5]

theorem pay6 (r : Fin 24) : k0_pay6 (F := Ideal) X G (ix2 r 0) = ratio (xs X) (gs G) r := by
  unfold ratio
  rw [← pay5]
  pointwise [k0_pay6]

/-- The row's exponent, as the reference selects it. -/
theorem exp_eq (r : Fin 24) :
    (if k0_pay5 (F := Ideal) X G (ix2 r 0) = 0 then 0 else
      Scalar.select (k0_pay7 (F := Ideal) X G (ix2 r 0)) (k0_pay8 (F := Ideal) X G (ix2 r 0)) (k0_pay9 (F := Ideal) (ix2 r 0)))
      = floatExp (amax (xs X) (gs G) r) (ratio (xs X) (gs G) r) := by
  unfold floatExp
  rw [← pay5, ← pay6]
  pointwise [k0_pay7, k0_pay8, k0_pay9]

theorem pay11 (r : Fin 24) : k0_pay11 (k0_pay5 (F := Ideal) X G) (k0_pay7 (F := Ideal) X G) (k0_pay8 (F := Ideal) X G) (k0_pay9 (F := Ideal)) (ix2 r 0) = scale (xs X) (gs G) r := by
  unfold scale floatScale
  rw [← exp_eq]
  generalize k0_pay5 (F := Ideal) X G = a
  generalize k0_pay7 (F := Ideal) X G = b
  generalize k0_pay8 (F := Ideal) X G = d
  pointwise [k0_pay11, k0_pay10, k0_pay9]

theorem pay12 (r : Fin 24) (k : Fin 5120) :
    k0_pay12 (k0_pay4 (F := Ideal) X G) (k0_pay5 (F := Ideal) X G) (k0_pay7 (F := Ideal) X G) (k0_pay8 (F := Ideal) X G) (k0_pay9 (F := Ideal)) (ix2 r k) = code (xs X) (gs G) r k := by
  unfold code Values.inv floatScale
  rw [← exp_eq, ← pay4]
  generalize k0_pay4 (F := Ideal) X G = h
  generalize k0_pay5 (F := Ideal) X G = a
  generalize k0_pay7 (F := Ideal) X G = b
  generalize k0_pay8 (F := Ideal) X G = d
  pointwise [k0_pay12, k0_pay10, k0_pay9]

variable (W : FVec Ideal S5120x7168 .fp8e4m3) (ws : FVec Ideal S7168 .f32)

abbrev Ws : Fin 5120 → Fin 7168 → EReal := fun k c => W (ix2 k c)
abbrev wss : Fin 7168 → EReal := fun c => ws (ix1 c)

theorem pay14 (r : Fin 24) (h : Fin 40) (l : Fin 128) :
    k0_pay14 W ws (k0_pay4 (F := Ideal) X G) (k0_pay5 (F := Ideal) X G) (k0_pay7 (F := Ideal) X G) (k0_pay8 (F := Ideal) X G) (k0_pay9 (F := Ideal)) (ix4 r 0 h l)
      = prod (xs X) (gs G) (Ws W) (wss ws) r ⟨h.val * 128 + l.val, by omega⟩ := by
  unfold prod
  simp only [← pay12, ← pay11]
  generalize k0_pay4 (F := Ideal) X G = h
  generalize k0_pay5 (F := Ideal) X G = a
  generalize k0_pay7 (F := Ideal) X G = b
  generalize k0_pay8 (F := Ideal) X G = d
  pointwise [k0_pay14, k0_pay13]

theorem pay15 (r : Fin 24) (h : Fin 8) (l : Fin 128) :
    k0_pay15 W ws (k0_pay4 (F := Ideal) X G) (k0_pay5 (F := Ideal) X G) (k0_pay7 (F := Ideal) X G) (k0_pay8 (F := Ideal) X G) (k0_pay9 (F := Ideal)) (ix4 r 0 h l)
      = prod (xs X) (gs G) (Ws W) (wss ws) r ⟨5120 + (h.val * 128 + l.val), by omega⟩ := by
  unfold prod
  simp only [← pay12, ← pay11]
  generalize k0_pay4 (F := Ideal) X G = h
  generalize k0_pay5 (F := Ideal) X G = a
  generalize k0_pay7 (F := Ideal) X G = b
  generalize k0_pay8 (F := Ideal) X G = d
  pointwise [k0_pay15, k0_pay13]

theorem pay16 (r : Fin 24) (h : Fin 8) (l : Fin 128) :
    k0_pay16 W ws (k0_pay4 (F := Ideal) X G) (k0_pay5 (F := Ideal) X G) (k0_pay7 (F := Ideal) X G) (k0_pay8 (F := Ideal) X G) (k0_pay9 (F := Ideal)) (ix4 r 0 h l)
      = prod (xs X) (gs G) (Ws W) (wss ws) r ⟨6144 + (h.val * 128 + l.val), by omega⟩ := by
  unfold prod
  simp only [← pay12, ← pay11]
  generalize k0_pay4 (F := Ideal) X G = h
  generalize k0_pay5 (F := Ideal) X G = a
  generalize k0_pay7 (F := Ideal) X G = b
  generalize k0_pay8 (F := Ideal) X G = d
  pointwise [k0_pay16, k0_pay13]

variable (P : IVec S24x1 32)

/-- The lane number in its half, as the reference's word. -/
theorem lane_low : ∀ l : Fin 128, l.val < 64 → IntOp.addi 0#32 (IntOp.muli 2#32 (BitVec.ofNat 32 l.val))
    = IntOp.muli 2#32 (BitVec.ofNat 32 (l.val % 64)) := by decide +kernel
theorem lane_high : ∀ l : Fin 128, ¬ l.val < 64 → IntOp.addi 0#32 (IntOp.muli 2#32 (BitVec.ofNat 32 (l.val - 64)))
    = IntOp.muli 2#32 (BitVec.ofNat 32 (l.val % 64)) := by decide +kernel

abbrev iota64 : IVec S1x64 32 := iota .tc S1x64 32 [1] iota_S1x64_d1_w32

theorem pay17 (r : Fin 24) (l : Fin 128) : k0_pay17 (F := Ideal) P iota64 (ix4 r 0 0 l) = angle (fun r => P (ix2 r 0)) r l := by
  unfold angle
  pointwise [k0_pay17]
  by_cases h : l.val < 64
  · rw [dif_pos h, lane_low l h]
  · rw [dif_neg h, lane_high l h]

/-- A query head's entry is the product's, turned. -/
theorem pay20 (r : Fin 24) (h : Fin 40) (l : Fin 128) :
    k0_pay20 (F := Ideal) P (k0_pay14 W ws (k0_pay4 (F := Ideal) X G) (k0_pay5 (F := Ideal) X G) (k0_pay7 (F := Ideal) X G) (k0_pay8 (F := Ideal) X G) (k0_pay9 (F := Ideal))) iota64
      (ix4 r 0 h l) = turned (xs X) (gs G) (Ws W) (wss ws) (fun r => P (ix2 r 0)) r (h.val * 128) (by omega) l := by
  unfold turned
  rw [← pay17, ← pay14 X G W ws r h l]
  split
  · rename_i hl
    rw [← pay14 X G W ws r h ⟨64 + l.val, by omega⟩]
    generalize k0_pay14 (F := Ideal) W ws _ _ _ _ _ = y
    pointwise [k0_pay20, k0_pay18, k0_pay19]
    rw [dif_pos hl]
  · rename_i hl
    rw [← pay14 X G W ws r h ⟨l.val - 64, by omega⟩]
    generalize k0_pay14 (F := Ideal) W ws _ _ _ _ _ = y
    pointwise [k0_pay20, k0_pay18, k0_pay19]
    rw [dif_neg hl]

/-- A key head's entry is the product's, turned. -/
theorem pay21 (r : Fin 24) (h : Fin 8) (l : Fin 128) :
    k0_pay21 (F := Ideal) P (k0_pay15 W ws (k0_pay4 (F := Ideal) X G) (k0_pay5 (F := Ideal) X G) (k0_pay7 (F := Ideal) X G) (k0_pay8 (F := Ideal) X G) (k0_pay9 (F := Ideal))) iota64
      (ix4 r 0 h l) = turned (xs X) (gs G) (Ws W) (wss ws) (fun r => P (ix2 r 0)) r (5120 + h.val * 128) (by omega) l := by
  unfold turned
  simp only [Nat.add_assoc]
  rw [← pay17, ← pay15 X G W ws r h l]
  split
  · rename_i hl
    rw [← pay15 X G W ws r h ⟨64 + l.val, by omega⟩]
    generalize k0_pay15 (F := Ideal) W ws _ _ _ _ _ = y
    pointwise [k0_pay21, k0_pay18, k0_pay19]
    rw [dif_pos hl]
  · rename_i hl
    rw [← pay15 X G W ws r h ⟨l.val - 64, by omega⟩]
    generalize k0_pay15 (F := Ideal) W ws _ _ _ _ _ = y
    pointwise [k0_pay21, k0_pay18, k0_pay19]
    rw [dif_neg hl]

/-! ## The five results at an index -/

theorem ld_x : View.ld (Val := Elt Ideal) (e' := .bf16) X r0_0 = X := View.ld_unit_zero (Val := Elt Ideal) (e := .bf16) (S := S24x1x5120) hz0 _ X
theorem ld_g : View.ld (Val := Elt Ideal) (e' := .f32) G r0_1 = G := View.ld_unit_zero (Val := Elt Ideal) (e := .f32) (S := S5120) hz1 _ G

theorem q_val (r : Fin 24) (h : Fin 40) (l : Fin 128) : G5 (F := Ideal) X G W ws P (ix4 r 0 h l)
    = turned (xs X) (gs G) (Ws W) (wss ws) (fun r => P (ix2 r 0)) r (h.val * 128) (by omega) l := by
  rw [← pay20]
  unfold G5 k0_pay22 k0_pay23 k0_pay24 k0_pay25 k0_pay26 k0_pay27
  rw [ld_x, ld_g]

theorem k_val (r : Fin 24) (h : Fin 8) (l : Fin 128) : G6 (F := Ideal) X G W ws P (ix4 r 0 h l)
    = turned (xs X) (gs G) (Ws W) (wss ws) (fun r => P (ix2 r 0)) r (5120 + h.val * 128) (by omega) l := by
  rw [← pay21]
  unfold G6 k0_pay22 k0_pay23 k0_pay24 k0_pay25 k0_pay26 k0_pay27
  rw [ld_x, ld_g]

theorem v_val (r : Fin 24) (h : Fin 8) (l : Fin 128) : G7 (F := Ideal) X G W ws P (ix4 r 0 h l)
    = prod (xs X) (gs G) (Ws W) (wss ws) r ⟨6144 + (h.val * 128 + l.val), by omega⟩ := by
  rw [← pay16]
  unfold G7 k0_pay22 k0_pay23 k0_pay24 k0_pay25 k0_pay26
  rw [ld_x, ld_g]
  generalize k0_pay16 (F := Ideal) W ws _ _ _ _ _ = y
  pointwise [k0_pay1]

theorem codes_val (r : Fin 24) (k : Fin 5120) : G8 (F := Ideal) X G W ws P (ix3 r 0 k) = code (xs X) (gs G) r k := by
  rw [← pay12]
  unfold G8 k0_pay22 k0_pay23 k0_pay24 k0_pay25 k0_pay26
  rw [ld_x, ld_g]
  generalize k0_pay12 (F := Ideal) _ _ _ _ _ = y
  pointwise [k0_pay2]

theorem scale_val (r : Fin 24) : G9 (F := Ideal) X G W ws P (ix3 r 0 0) = scale (xs X) (gs G) r := by
  rw [← pay11]
  unfold G9 k0_pay23 k0_pay24 k0_pay25 k0_pay26
  rw [ld_x, ld_g]
  generalize k0_pay11 (F := Ideal) _ _ _ _ = y
  pointwise [k0_pay3]

end Cert.ReferenceValues

end
-- ==== Proof.Equation.lean ====
/- The kernel's results, cut and reshaped, are the reference's results of the same arguments. -/
module

public import proofs.«01_k».proof.Proof.KernelOuts
public import proofs.«01_k».proof.Proof.ReferenceValues

@[expose] public section

set_option maxRecDepth 16384

noncomputable section

namespace Cert.Equation

open Cert.KernelIdeal Cert.KernelIdeal.Gen Idealize.ShloMosaic Idealize.ShloMosaic.TcCoe Idealize.SL.Sem
open Cert.KernelTiles Cert.KernelOuts Cert.Values Cert.ReferenceRun

variable (x : FVec Ideal S24x1x5120 .bf16) (g : FVec Ideal S5120 .f32) (W : FVec Ideal S5120x7168 .fp8e4m3)
  (ws : FVec Ideal S7168 .f32) (P : IVec S24x1 32)

/-- The arguments as the call finds them. -/
abbrev X' : FVec Ideal S24x5120 .bf16 := shapeCast S24x5120 x shapeCasts_S24x1x5120_S24x5120
abbrev G' : FVec Ideal S1x5120 .f32 := shapeCast S1x5120 g shapeCasts_S5120_S1x5120
abbrev ws' : FVec Ideal S1x7168 .f32 := shapeCast S1x7168 ws shapeCasts_S7168_S1x7168

theorem xs_eq : KernelValues.xs (X' x) = ReferenceValues.xs x := by
  funext r k
  show X' x (ix2 r k) = x (ix3 r 0 k)
  pointwise

theorem gs_eq : KernelValues.gs (G' g) = ReferenceValues.gs g := by
  funext k
  show G' g (ix2 0 k) = g (ix1 k)
  pointwise

theorem wss_eq : KernelOuts.wss (ws' ws) = ReferenceValues.wss ws := by
  funext c
  show ws' ws (ix2 0 c) = ws (ix1 c)
  pointwise

/-- The kernel's 24 x 7168 result. -/
def out (i : S24x7168.Idx) : EReal :=
  tileY (kA (X' x) (G' g)) (kS (X' x) (G' g)) (k0_pay17 (F := Ideal) P) (k0_pay18 (F := Ideal) P) W (ws' ws) (i 0) (i 1)

theorem out_turned (r : Fin 24) (c : Fin 7168) (o : Nat) (l : Fin 128) (ho : o + 128 ≤ 6144) (h128 : o % 128 = 0)
    (hc : c.val = o + l.val) : out x g W ws P (ix2 r c)
      = turned (ReferenceValues.xs x) (ReferenceValues.gs g) (ReferenceValues.Ws W) (ReferenceValues.wss ws) (fun r => P (ix2 r 0)) r o (by omega) l := by
  rw [← xs_eq, ← gs_eq, ← wss_eq]
  exact tile_turned (X' x) (G' g) W (ws' ws) P r c o l ho h128 hc

theorem out_plain (r : Fin 24) (c : Fin 7168) (h : 6144 ≤ c.val) : out x g W ws P (ix2 r c)
      = prod (ReferenceValues.xs x) (ReferenceValues.gs g) (ReferenceValues.Ws W) (ReferenceValues.wss ws) r c := by
  rw [← xs_eq, ← gs_eq, ← wss_eq]
  exact tile_plain (X' x) (G' g) W (ws' ws) _ _ r c h

/-! ## The host's cuts and reshapes, at an index -/

theorem q_at (Y : FVec Ideal S24x7168 .bf16) (r : Fin 24) (h : Fin 40) (l : Fin 128) :
    shapeCast S24x1x40x128 (extractStridedSlice S24x5120 ![0, 0] Y slices_S24x7168_S24x5120_0_0) shapeCasts_S24x5120_S24x1x40x128
      (ix4 r 0 h l) = Y (ix2 r ⟨h.val * 128 + l.val, by omega⟩) := by
  pointwise

theorem k_at (Y : FVec Ideal S24x7168 .bf16) (r : Fin 24) (h : Fin 8) (l : Fin 128) :
    shapeCast S24x1x8x128 (extractStridedSlice S24x1024 ![0, 5120] Y slices_S24x7168_S24x1024_0_5120) shapeCasts_S24x1024_S24x1x8x128
      (ix4 r 0 h l) = Y (ix2 r ⟨5120 + (h.val * 128 + l.val), by omega⟩) := by
  pointwise

theorem v_at (Y : FVec Ideal S24x7168 .bf16) (r : Fin 24) (h : Fin 8) (l : Fin 128) :
    shapeCast S24x1x8x128 (extractStridedSlice S24x1024 ![0, 6144] Y slices_S24x7168_S24x1024_0_6144) shapeCasts_S24x1024_S24x1x8x128
      (ix4 r 0 h l) = Y (ix2 r ⟨6144 + (h.val * 128 + l.val), by omega⟩) := by
  pointwise

theorem codes_at (Y : FVec Ideal S24x5120 .fp8e4m3) (r : Fin 24) (k : Fin 5120) :
    shapeCast S24x1x5120 Y shapeCasts_S24x5120_S24x1x5120 (ix3 r 0 k) = Y (ix2 r k) := by
  pointwise

theorem scale_at (Y : FVec Ideal S24x1 .f32) (r : Fin 24) :
    shapeCast S24x1x1 Y shapeCasts_S24x1_S24x1x1 (ix3 r 0 0) = Y (ix2 r 0) := by
  pointwise

/-! ## The five equations -/

theorem q_eq : shapeCast S24x1x40x128 (extractStridedSlice S24x5120 ![0, 0] (out x g W ws P : FVec Ideal S24x7168 .bf16) slices_S24x7168_S24x5120_0_0)
    shapeCasts_S24x5120_S24x1x40x128 = G5 (F := Ideal) x g W ws P := by
  have e := ReferenceValues.q_val x g W ws P
  generalize G5 (F := Ideal) x g W ws P = Z at e ⊢
  funext i
  idx_vars i
  obtain rfl : i1 = 0 := Subsingleton.elim _ _
  exact (q_at _ i0 i2 i3).trans ((out_turned x g W ws P i0 _ (i2.val * 128) i3 (by omega) (by omega) rfl).trans (e i0 i2 i3).symm)

theorem k_eq : shapeCast S24x1x8x128 (extractStridedSlice S24x1024 ![0, 5120] (out x g W ws P : FVec Ideal S24x7168 .bf16) slices_S24x7168_S24x1024_0_5120)
    shapeCasts_S24x1024_S24x1x8x128 = G6 (F := Ideal) x g W ws P := by
  have e := ReferenceValues.k_val x g W ws P
  generalize G6 (F := Ideal) x g W ws P = Z at e ⊢
  funext i
  idx_vars i
  obtain rfl : i1 = 0 := Subsingleton.elim _ _
  exact (k_at _ i0 i2 i3).trans ((out_turned x g W ws P i0 _ (5120 + i2.val * 128) i3 (by omega) (by omega)
    (Nat.add_assoc _ _ _).symm).trans (e i0 i2 i3).symm)

theorem v_eq : shapeCast S24x1x8x128 (extractStridedSlice S24x1024 ![0, 6144] (out x g W ws P : FVec Ideal S24x7168 .bf16) slices_S24x7168_S24x1024_0_6144)
    shapeCasts_S24x1024_S24x1x8x128 = G7 (F := Ideal) x g W ws P := by
  have e := ReferenceValues.v_val x g W ws P
  generalize G7 (F := Ideal) x g W ws P = Z at e ⊢
  funext i
  idx_vars i
  obtain rfl : i1 = 0 := Subsingleton.elim _ _
  exact (v_at _ i0 i2 i3).trans ((out_plain x g W ws P i0 _ (Nat.le_add_right _ _)).trans (e i0 i2 i3).symm)

theorem codes_eq : shapeCast S24x1x5120 (k0_pay13 (k0_pay4 (F := Ideal) (X' x) (G' g)) (k0_pay5 (F := Ideal) (X' x) (G' g))
    (k0_pay7 (F := Ideal) (X' x) (G' g)) (k0_pay8 (F := Ideal) (X' x) (G' g)) k0_pay9) shapeCasts_S24x5120_S24x1x5120
    = G8 (F := Ideal) x g W ws P := by
  have e := ReferenceValues.codes_val x g W ws P
  have d := KernelValues.pay13 (X' x) (G' g)
  rw [xs_eq, gs_eq] at d
  generalize G8 (F := Ideal) x g W ws P = Z at e ⊢
  funext i
  idx_vars i
  obtain rfl : i1 = 0 := Subsingleton.elim _ _
  exact (codes_at _ i0 i2).trans ((d i0 i2).trans (e i0 i2).symm)

theorem scale_eq : shapeCast S24x1x1 (kS (X' x) (G' g)) shapeCasts_S24x1_S24x1x1 = G9 (F := Ideal) x g W ws P := by
  have e := ReferenceValues.scale_val x g W ws P
  have d := KernelValues.pay11 (X' x) (G' g)
  rw [xs_eq, gs_eq] at d
  generalize G9 (F := Ideal) x g W ws P = Z at e ⊢
  funext i
  idx_vars i
  obtain rfl : i1 = 0 := Subsingleton.elim _ _
  obtain rfl : i2 = 0 := Subsingleton.elim _ _
  exact (scale_at _ i0).trans ((d i0).trans (e i0).symm)

end Cert.Equation

end
-- ==== Proof.KernelResults.lean ====
/- The kernel's run leaves, in its five results, the reference's five results of the same arguments. -/
module

public import proofs.«01_k».proof.Proof.KernelRun
public import proofs.«01_k».proof.Proof.KernelTiles
public import proofs.«01_k».proof.Proof.Equation

@[expose] public section

set_option maxRecDepth 16384

noncomputable section

namespace Cert.KernelResults

open Cert.KernelIdeal Cert.KernelIdeal.Gen Idealize.ShloMosaic Idealize.ShloMosaic.TcCoe Idealize.SL.Sem
open Cert.KernelTiles Cert.KernelOuts Cert.KernelRun Cert.ReferenceRun Cert.Equation

variable (m : (ℓ : Loc nD τ sig) → Buf (Elt Ideal) ℓ) (ρ : Dev nD → PrngReg) (c : Dev nD)

/-- The five arguments of a core. -/
abbrev a0 : FVec Ideal S24x1x5120 .bf16 := m ((c : Thread nD τ).loc main_arg0)
abbrev a1 : FVec Ideal S5120 .f32 := m ((c : Thread nD τ).loc main_arg1)
abbrev a2 : FVec Ideal S5120x7168 .fp8e4m3 := m ((c : Thread nD τ).loc main_arg2)
abbrev a3 : FVec Ideal S7168 .f32 := m ((c : Thread nD τ).loc main_arg3)
abbrev a4 : IVec S24x1 32 := m ((c : Thread nD τ).loc main_arg4)

theorem y_eq : (outsAt0 m c t0).1 = out (a0 m c) (a1 m c) (a2 m c) (a3 m c) (a4 m c) := by
  rw [out_y, entry_x, entry_g, entry_scales, V_main_arg2, V_main_arg4]
  rfl

theorem codes_out : (outsAt0 m c t0).2.1 = k0_pay13 (k0_pay4 (F := Ideal) (X' (a0 m c)) (G' (a1 m c)))
    (k0_pay5 (F := Ideal) (X' (a0 m c)) (G' (a1 m c))) (k0_pay7 (F := Ideal) (X' (a0 m c)) (G' (a1 m c)))
    (k0_pay8 (F := Ideal) (X' (a0 m c)) (G' (a1 m c))) k0_pay9 := by
  rw [out_codes, entry_x, entry_g]

theorem scale_out : (outsAt0 m c t0).2.2 = kS (X' (a0 m c)) (G' (a1 m c)) := by
  rw [out_scale, entry_x, entry_g]

theorem run_values : θ_run defs (onTc (τ := τ) (main (F := Ideal))) ⟨m, fun _ => 0, ρ⟩ fun r => ∀ c : Dev nD,
      r.2.mem ((c : Thread nD τ).loc main_v5) = G5 (F := Ideal) (a0 m c) (a1 m c) (a2 m c) (a3 m c) (a4 m c)
      ∧ r.2.mem ((c : Thread nD τ).loc main_v7) = G6 (F := Ideal) (a0 m c) (a1 m c) (a2 m c) (a3 m c) (a4 m c)
      ∧ r.2.mem ((c : Thread nD τ).loc main_v9) = G7 (F := Ideal) (a0 m c) (a1 m c) (a2 m c) (a3 m c) (a4 m c)
      ∧ r.2.mem ((c : Thread nD τ).loc main_v10) = G8 (F := Ideal) (a0 m c) (a1 m c) (a2 m c) (a3 m c) (a4 m c)
      ∧ r.2.mem ((c : Thread nD τ).loc main_v11) = G9 (F := Ideal) (a0 m c) (a1 m c) (a2 m c) (a3 m c) (a4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ?_) (KernelRun.run m ρ)
  obtain ⟨h0, h1, h2, h3, h4, hs⟩ := h c
  rw [y_eq] at h0 h1 h2
  rw [codes_out] at h3
  rw [scale_out] at h4
  exact ⟨h0.trans (q_eq _ _ _ _ _), h1.trans (k_eq _ _ _ _ _), h2.trans (v_eq _ _ _ _ _), h3.trans (codes_eq _ _ _ _ _),
    h4.trans (scale_eq _ _ _ _ _), hs⟩

end Cert.KernelResults

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.ReferenceRun
public import proofs.«01_k».proof.Proof.KernelResults
public import Idealize.ShloMosaic.Adequacy
public import Idealize.ShloMosaic.Init

@[expose] public section

noncomputable section

namespace Cert.Proof

open Idealize.ShloMosaic Idealize.SL.Sem Cert.Kernel

/-- From equal arguments, the kernel's run and the reference's run end with equal results. -/
theorem algebraic : algebraic_KernelIdeal_ReferenceIdeal := by
  intro m g m' g' _ hargs
  refine ⟨_, _, _, _, _, Cert.KernelResults.run_values m g, ?_⟩
  refine (θ_run Cert.ReferenceIdeal.defs _ _).mono (fun r h c => ?_) (Cert.ReferenceRun.run m' g')
  obtain ⟨e0, e1, e2, e3, e4⟩ := hargs c
  have hc := h c
  rw [e0, e1, e2, e3, e4] at hc
  rw [e0, e1, e2, e3, e4]
  exact hc

theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
